-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_Exact (m : (ℓ : Loc Cert.Exact.nD Cert.Exact.τ Cert.Exact.sig) → Buf (Elt Bits) ℓ) : Prop :=
  True

def Pre_ExactIdeal (m : (ℓ : Loc Cert.ExactIdeal.nD Cert.ExactIdeal.τ Cert.ExactIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Exact [hExact : Cert.Exact.Facts] : Prop :=
  ∀ (m : (ℓ : Loc Cert.Exact.nD Cert.Exact.τ Cert.Exact.sig) → Buf (Elt Bits) ℓ) (g : Dev Cert.Exact.nD → PrngReg), Pre_Exact m →
    θ_run (Cert.Exact.defs (F := Bits)) (onTc (τ := Cert.Exact.τ) (Cert.Exact.main (F := Bits))) ⟨m, fun _ => 0, g⟩ (fun r => (∀ c : Dev Cert.Exact.nD,
      r.2.mem ((c.tc : Thread Cert.Exact.nD Cert.Exact.τ).loc Cert.Exact.main_arg0) = m ((c.tc : Thread Cert.Exact.nD Cert.Exact.τ).loc Cert.Exact.main_arg0)
      ∧ r.2.mem ((c.tc : Thread Cert.Exact.nD Cert.Exact.τ).loc Cert.Exact.main_arg1) = m ((c.tc : Thread Cert.Exact.nD Cert.Exact.τ).loc Cert.Exact.main_arg1)
      ∧ r.2.mem ((c.tc : Thread Cert.Exact.nD Cert.Exact.τ).loc Cert.Exact.main_arg2) = m ((c.tc : Thread Cert.Exact.nD Cert.Exact.τ).loc Cert.Exact.main_arg2)
      ∧ r.2.mem ((c.tc : Thread Cert.Exact.nD Cert.Exact.τ).loc Cert.Exact.main_arg3) = m ((c.tc : Thread Cert.Exact.nD Cert.Exact.τ).loc Cert.Exact.main_arg3))
      ∧ r.2.sem = fun _ => 0)

def quiescent_ExactIdeal [hExactIdeal : Cert.ExactIdeal.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1)
      ∧ r.2.mem ((c.tc : Thread Cert.ExactIdeal.nD Cert.ExactIdeal.τ).loc Cert.ExactIdeal.main_arg2) = m ((c.tc : Thread Cert.ExactIdeal.nD Cert.ExactIdeal.τ).loc Cert.ExactIdeal.main_arg2)
      ∧ r.2.mem ((c.tc : Thread Cert.ExactIdeal.nD Cert.ExactIdeal.τ).loc Cert.ExactIdeal.main_arg3) = m ((c.tc : Thread Cert.ExactIdeal.nD Cert.ExactIdeal.τ).loc Cert.ExactIdeal.main_arg3))
      ∧ r.2.sem = fun _ => 0)

def preserves_Kernel_KernelIdeal : Prop :=
  True

def holds_KernelIdeal_close_to_formula_pre_finite_inputs [hKernelIdeal : Cert.KernelIdeal.Facts] [hPre_finite_inputs : Cert.Pre_finite_inputs.Facts] [hPost_close_to_formula : Cert.Post_close_to_formula.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_close_to_formula.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v0))) = (fun _ => 1#1))

def preserves_Exact_ExactIdeal : Prop :=
  IdealRules.named_const.Statement Cert.ExactIdeal.κ "two_pi" .f32 0x40C90FDB#32 ((2 * Real.pi : ℝ) : EReal)

def algebraic_ExactIdeal_ReferenceIdeal [hExactIdeal : Cert.ExactIdeal.Facts] [hReferenceIdeal : Cert.ReferenceIdeal.Facts] : Prop :=
  ∀ (m : (ℓ : Loc Cert.ExactIdeal.nD Cert.ExactIdeal.τ Cert.ExactIdeal.sig) → Buf (Elt Ideal) ℓ) (g : Dev Cert.ExactIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ExactIdeal m →
    (∀ c : Dev Cert.ExactIdeal.nD,
      m' ((c.tc : Thread Cert.ReferenceIdeal.nD Cert.ReferenceIdeal.τ).loc Cert.ReferenceIdeal.main_arg0) = m ((c.tc : Thread Cert.ExactIdeal.nD Cert.ExactIdeal.τ).loc Cert.ExactIdeal.main_arg0)
      ∧ m' ((c.tc : Thread Cert.ReferenceIdeal.nD Cert.ReferenceIdeal.τ).loc Cert.ReferenceIdeal.main_arg1) = m ((c.tc : Thread Cert.ExactIdeal.nD Cert.ExactIdeal.τ).loc Cert.ExactIdeal.main_arg1)
      ∧ m' ((c.tc : Thread Cert.ReferenceIdeal.nD Cert.ReferenceIdeal.τ).loc Cert.ReferenceIdeal.main_arg2) = m ((c.tc : Thread Cert.ExactIdeal.nD Cert.ExactIdeal.τ).loc Cert.ExactIdeal.main_arg2)
      ∧ m' ((c.tc : Thread Cert.ReferenceIdeal.nD Cert.ReferenceIdeal.τ).loc Cert.ReferenceIdeal.main_arg3) = m ((c.tc : Thread Cert.ExactIdeal.nD Cert.ExactIdeal.τ).loc Cert.ExactIdeal.main_arg3)) →
    ∃ (v0 : (c : Dev Cert.ExactIdeal.nD) → Buf (Elt Ideal) ((c.tc : Thread Cert.ExactIdeal.nD Cert.ExactIdeal.τ).loc Cert.ExactIdeal.main_v0)),
      θ_run (Cert.ExactIdeal.defs (F := Ideal)) (onTc (τ := Cert.ExactIdeal.τ) (Cert.ExactIdeal.main (F := Ideal))) ⟨m, fun _ => 0, g⟩ (fun r => ∀ c : Dev Cert.ExactIdeal.nD,
          r.2.mem ((c.tc : Thread Cert.ExactIdeal.nD Cert.ExactIdeal.τ).loc Cert.ExactIdeal.main_v0) = v0 c
          ∧ r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
          ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1)
          ∧ r.2.mem ((c.tc : Thread Cert.ExactIdeal.nD Cert.ExactIdeal.τ).loc Cert.ExactIdeal.main_arg2) = m ((c.tc : Thread Cert.ExactIdeal.nD Cert.ExactIdeal.τ).loc Cert.ExactIdeal.main_arg2)
          ∧ r.2.mem ((c.tc : Thread Cert.ExactIdeal.nD Cert.ExactIdeal.τ).loc Cert.ExactIdeal.main_arg3) = m ((c.tc : Thread Cert.ExactIdeal.nD Cert.ExactIdeal.τ).loc Cert.ExactIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hExact : Cert.Exact.Facts) (hExactIdeal : Cert.ExactIdeal.Facts) (hPre_finite_inputs : Cert.Pre_finite_inputs.Facts) (hPost_close_to_formula : Cert.Post_close_to_formula.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_Exact (hExact := hExact)
    ∧ quiescent_ExactIdeal (hExactIdeal := hExactIdeal)
    ∧ preserves_Kernel_KernelIdeal
    ∧ holds_KernelIdeal_close_to_formula_pre_finite_inputs (hKernelIdeal := hKernelIdeal) (hPre_finite_inputs := hPre_finite_inputs) (hPost_close_to_formula := hPost_close_to_formula)
    ∧ preserves_Exact_ExactIdeal
    ∧ algebraic_ExactIdeal_ReferenceIdeal (hExactIdeal := hExactIdeal) (hReferenceIdeal := hReferenceIdeal)
-- ==== Post_close_to_formula.lean ====
abbrev S16384x100 : Shape := ⟨2, ![16384, 100]⟩
abbrev S100x16 : Shape := ⟨2, ![100, 16]⟩
abbrev S100x32x16 : Shape := ⟨3, ![100, 32, 16]⟩
abbrev S16384x1600 : Shape := ⟨2, ![16384, 1600]⟩
abbrev S_ : Shape := ⟨0, ![]⟩
abbrev S1x1600 : Shape := ⟨2, ![1, 1600]⟩
abbrev S1x100x16 : Shape := ⟨3, ![1, 100, 16]⟩
abbrev S16384x100x1 : Shape := ⟨3, ![16384, 100, 1]⟩
abbrev S16384x100x16 : Shape := ⟨3, ![16384, 100, 16]⟩
abbrev S16384x100x32 : Shape := ⟨3, ![16384, 100, 32]⟩
abbrev S100x16x16384 : Shape := ⟨3, ![100, 16, 16384]⟩

class Facts : Prop where
  reducesTo_S100x32x16_S100x16_d1 : S100x32x16.ReducesTo [1] S100x16
  h_S_ : 0 < S_.numel
  shapeCasts_S100x16_S1x1600 : S100x16.ShapeCasts S1x1600
  bcast_S100x16_S1x100x16_1_2 : S100x16.BroadcastsInDim S1x100x16 (![1, 2] : Fin 2 → Fin S1x100x16.rank)
  bcast_S_S1x100x16 : S_.BroadcastsInDim S1x100x16 (![] : Fin 0 → Fin S1x100x16.rank)
  bcast_S16384x100_S16384x100x1_0_1 : S16384x100.BroadcastsInDim S16384x100x1 (![0, 1] : Fin 2 → Fin S16384x100x1.rank)
  bcast_S1x100x16_S16384x100x16_0_1_2 : S1x100x16.BroadcastsInDim S16384x100x16 (![0, 1, 2] : Fin 3 → Fin S16384x100x16.rank)
  bcast_S16384x100x1_S16384x100x16_0_1_2 : S16384x100x1.BroadcastsInDim S16384x100x16 (![0, 1, 2] : Fin 3 → Fin S16384x100x16.rank)
  concatenates_S16384x100x16_S16384x100x16_S16384x100x32_d2 : Shape.Concatenates [S16384x100x16, S16384x100x16] S16384x100x32 2
  transposes_S100x16x16384_S16384x100x16_2_0_1 : S100x16x16384.Transposes [2, 0, 1] S16384x100x16
  bcast_S_S16384x100x16 : S_.BroadcastsInDim S16384x100x16 (![] : Fin 0 → Fin S16384x100x16.rank)
  shapeCasts_S16384x100x16_S16384x1600 : S16384x100x16.ShapeCasts S16384x1600
  bcast_S_S1x1600 : S_.BroadcastsInDim S1x1600 (![] : Fin 0 → Fin S1x1600.rank)
  bcast_S1x1600_S16384x1600_0_1 : S1x1600.BroadcastsInDim S16384x1600 (![0, 1] : Fin 2 → Fin S16384x1600.rank)
  dot_S100x32x16_S16384x100x32_S100x16x16384_1_2_2_0_0_1_wf : DotDims.WF S100x32x16 S16384x100x32 S100x16x16384 [1] [2] [2] [0] [0] [1]

variable [Facts]

def dot_S100x32x16_S16384x100x32_S100x16x16384_1_2_2_0_0_1 : DotDims S100x32x16 S16384x100x32 S100x16x16384 where
  lhsContracting := [1]
  rhsContracting := [2]
  lhsNonContracting := [2]
  rhsNonContracting := [0]
  lhsBatch := [0]
  rhsBatch := [1]
  wf := dot_S100x32x16_S16384x100x32_S100x16x16384_1_2_2_0_0_1_wf
def fn_relu {F : FTy → Type} [FloatOps F] (arg0 : FVec F S16384x100x16 .f32) : FVec F S16384x100x16 .f32 :=
  let cst : FVec F S_ .f32 := constant S_ .f32 0x00000000#32
  let v0 : FVec F S16384x100x16 .f32 := broadcastInDim S16384x100x16 ![] bcast_S_S16384x100x16 cst
  let v1 : FVec F S16384x100x16 .f32 := maximumf arg0 v0
  v1

def fn_part1 {F : FTy → Type} [FloatOps F] (main_arg4 : FVec F S16384x1600 .f32) (main_v2 : FVec F S1x1600 .f32) (main_v17 : FVec F S16384x100x16 .f32) (main_v19 : FVec F S16384x100x16 .f32) : IVec S16384x1600 1 :=
  let main_v20 : FVec F S16384x100x16 .f32 := addf main_v17 main_v19
  let main_v21 : FVec F S16384x100x16 .f32 := fn_relu (F := F) main_v20
  let main_v22 : FVec F S16384x1600 .f32 := shapeCast S16384x1600 main_v21 shapeCasts_S16384x100x16_S16384x1600
  let main_v23 : FVec F S16384x1600 .f32 := subf main_arg4 main_v22
  let main_v24 : FVec F S16384x1600 .f32 := Host.absf main_v23
  let main_cst_3 : FVec F S_ .f32 := constant S_ .f32 0x44000000#32
  let main_v25 : FVec F S1x1600 .f32 := broadcastInDim S1x1600 ![] bcast_S_S1x1600 main_cst_3
  let main_v26 : FVec F S1x1600 .f32 := Host.divf main_v2 main_v25
  let main_v27 : FVec F S16384x1600 .f32 := broadcastInDim S16384x1600 ![0, 1] bcast_S1x1600_S16384x1600_0_1 main_v26
  let main_v28 : IVec S16384x1600 1 := cmpf .ole main_v24 main_v27
  main_v28

def fn {F : FTy → Type} [FloatOps F] (main_arg0 : FVec F S16384x100 .f32) (main_arg1 : FVec F S100x16 .f32) (main_arg2 : FVec F S100x32x16 .f32) (main_arg3 : FVec F S100x16 .f32) (main_arg4 : FVec F S16384x1600 .f32) : IVec S16384x1600 1 :=
  let main_v0 : FVec F S100x32x16 .f32 := Host.absf main_arg2
  let main_cst : FVec F S_ .f32 := constant S_ .f32 0x00000000#32
  let main_v1 : FVec F S100x16 .f32 := (fun x v => Host.reduceAdd x v reducesTo_S100x32x16_S100x16_d1 h_S_) main_v0 main_cst
  let main_v2 : FVec F S1x1600 .f32 := shapeCast S1x1600 main_v1 shapeCasts_S100x16_S1x1600
  let main_cst_0 : FVec F S_ .f32 := constant S_ .f32 0x3F800000#32
  let main_v3 : FVec F S_ .f32 := Host.atan main_cst_0
  let main_cst_1 : FVec F S_ .f32 := constant S_ .f32 0x40800000#32
  let main_v4 : FVec F S_ .f32 := mulf main_cst_1 main_v3
  let main_cst_2 : FVec F S_ .f32 := constant S_ .f32 0x40000000#32
  let main_v5 : FVec F S_ .f32 := mulf main_cst_2 main_v4
  let main_v6 : FVec F S1x100x16 .f32 := broadcastInDim S1x100x16 ![1, 2] bcast_S100x16_S1x100x16_1_2 main_arg1
  let main_v7 : FVec F S1x100x16 .f32 := broadcastInDim S1x100x16 ![] bcast_S_S1x100x16 main_v5
  let main_v8 : FVec F S1x100x16 .f32 := mulf main_v7 main_v6
  let main_v9 : FVec F S16384x100x1 .f32 := broadcastInDim S16384x100x1 ![0, 1] bcast_S16384x100_S16384x100x1_0_1 main_arg0
  let main_v10 : FVec F S16384x100x16 .f32 := broadcastInDim S16384x100x16 ![0, 1, 2] bcast_S1x100x16_S16384x100x16_0_1_2 main_v8
  let main_v11 : FVec F S16384x100x16 .f32 := broadcastInDim S16384x100x16 ![0, 1, 2] bcast_S16384x100x1_S16384x100x16_0_1_2 main_v9
  let main_v12 : FVec F S16384x100x16 .f32 := mulf main_v10 main_v11
  let main_v13 : FVec F S16384x100x16 .f32 := Host.cos main_v12
  let main_v14 : FVec F S16384x100x16 .f32 := Host.sin main_v12
  let main_v15 : FVec F S16384x100x32 .f32 := (fun a b => concatenate S16384x100x32 2 [⟨S16384x100x16, a⟩, ⟨S16384x100x16, b⟩] concatenates_S16384x100x16_S16384x100x16_S16384x100x32_d2) main_v13 main_v14
  let main_v16 : FVec F S100x16x16384 .f32 := (fun l r => Host.dotGeneral dot_S100x32x16_S16384x100x32_S100x16x16384_1_2_2_0_0_1 none l r) main_arg2 main_v15
  let main_v17 : FVec F S16384x100x16 .f32 := (transpose S16384x100x16 [2, 0, 1] · transposes_S100x16x16384_S16384x100x16_2_0_1) main_v16
  let main_v18 : FVec F S1x100x16 .f32 := broadcastInDim S1x100x16 ![1, 2] bcast_S100x16_S1x100x16_1_2 main_arg3
  let main_v19 : FVec F S16384x100x16 .f32 := broadcastInDim S16384x100x16 ![0, 1, 2] bcast_S1x100x16_S16384x100x16_0_1_2 main_v18
  fn_part1 (F := F) main_arg4 main_v2 main_v17 main_v19
-- ==== Pre_finite_inputs.lean ====
abbrev S16384x100 : Shape := ⟨2, ![16384, 100]⟩
abbrev S100x16 : Shape := ⟨2, ![100, 16]⟩
abbrev S100x32x16 : Shape := ⟨3, ![100, 32, 16]⟩
abbrev S_ : Shape := ⟨0, ![]⟩

class Facts : Prop where
  bcast_S_S16384x100 : S_.BroadcastsInDim S16384x100 (![] : Fin 0 → Fin S16384x100.rank)
  bcast_S_S100x16 : S_.BroadcastsInDim S100x16 (![] : Fin 0 → Fin S100x16.rank)

variable [Facts]

def fn {F : FTy → Type} [FloatOps F] (main_arg0 : FVec F S16384x100 .f32) (main_arg1 : FVec F S100x16 .f32) (main_arg2 : FVec F S100x32x16 .f32) (main_arg3 : FVec F S100x16 .f32) : IVec S16384x100 1 × IVec S100x16 1 × IVec S100x16 1 :=
  let main_v0 : FVec F S16384x100 .f32 := Host.absf main_arg0
  let main_cst : FVec F S_ .f32 := constant S_ .f32 0x7F800000#32
  let main_v1 : FVec F S16384x100 .f32 := broadcastInDim S16384x100 ![] bcast_S_S16384x100 main_cst
  let main_v2 : IVec S16384x100 1 := cmpf .olt main_v0 main_v1
  let main_v3 : FVec F S100x16 .f32 := Host.absf main_arg1
  let main_cst_0 : FVec F S_ .f32 := constant S_ .f32 0x7F800000#32
  let main_v4 : FVec F S100x16 .f32 := broadcastInDim S100x16 ![] bcast_S_S100x16 main_cst_0
  let main_v5 : IVec S100x16 1 := cmpf .olt main_v3 main_v4
  let main_v6 : FVec F S100x16 .f32 := Host.absf main_arg3
  let main_cst_1 : FVec F S_ .f32 := constant S_ .f32 0x7F800000#32
  let main_v7 : FVec F S100x16 .f32 := broadcastInDim S100x16 ![] bcast_S_S100x16 main_cst_1
  let main_v8 : IVec S100x16 1 := cmpf .olt main_v6 main_v7
  (main_v2, main_v5, main_v8)
-- ==== Kernel.lean ====
abbrev S16384x100 : Shape := ⟨2, ![16384, 100]⟩
abbrev S100x16 : Shape := ⟨2, ![100, 16]⟩
abbrev S100x32x16 : Shape := ⟨3, ![100, 32, 16]⟩
abbrev S_ : Shape := ⟨0, ![]⟩
abbrev S104x16 : Shape := ⟨2, ![104, 16]⟩
abbrev S104x104 : Shape := ⟨2, ![104, 104]⟩
abbrev S104x104x1 : Shape := ⟨3, ![104, 104, 1]⟩
abbrev S104x1x16 : Shape := ⟨3, ![104, 1, 16]⟩
abbrev S104x104x16 : Shape := ⟨3, ![104, 104, 16]⟩
abbrev S104x1664 : Shape := ⟨2, ![104, 1664]⟩
abbrev S100x1664 : Shape := ⟨2, ![100, 1664]⟩
abbrev S104x32x16 : Shape := ⟨3, ![104, 32, 16]⟩
abbrev S8x8 : Shape := ⟨2, ![8, 8]⟩
abbrev S104x16x16 : Shape := ⟨3, ![104, 16, 16]⟩
abbrev S13x8x16x16 : Shape := ⟨4, ![13, 8, 16, 16]⟩
abbrev S1x8x1x8x1 : Shape := ⟨5, ![1, 8, 1, 8, 1]⟩
abbrev S13x8x16x1x16 : Shape := ⟨5, ![13, 8, 16, 1, 16]⟩
abbrev S13x8x16x8x16 : Shape := ⟨5, ![13, 8, 16, 8, 16]⟩
abbrev S13x128x128 : Shape := ⟨3, ![13, 128, 128]⟩
abbrev S1x1664 : Shape := ⟨2, ![1, 1664]⟩
abbrev S16384x1600 : Shape := ⟨2, ![16384, 1600]⟩
abbrev S1024x100 : Shape := ⟨2, ![1024, 100]⟩
abbrev S1024x1600 : Shape := ⟨2, ![1024, 1600]⟩
abbrev S1024x1664 : Shape := ⟨2, ![1024, 1664]⟩
abbrev S1024x128 : Shape := ⟨2, ![1024, 128]⟩
abbrev S1x128x128 : Shape := ⟨3, ![1, 128, 128]⟩
abbrev S128x128 : Shape := ⟨2, ![128, 128]⟩

abbrev nBuf : Space → Nat
  | .hbm => 55
  | .vmem => 8
  | .smem => 0
  | _ => 0

abbrev bufTy : (tb : Table) → Fin (tcTables nBuf tb) → BufTy
  | .hbm, ⟨0, _⟩ => ⟨S16384x100, .f32⟩
  | .hbm, ⟨1, _⟩ => ⟨S100x16, .f32⟩
  | .hbm, ⟨2, _⟩ => ⟨S100x32x16, .f32⟩
  | .hbm, ⟨3, _⟩ => ⟨S100x16, .f32⟩
  | .hbm, ⟨4, _⟩ => ⟨S_, .i32⟩
  | .hbm, ⟨5, _⟩ => ⟨S_, .f32⟩
  | .hbm, ⟨6, _⟩ => ⟨S104x16, .f32⟩
  | .hbm, ⟨7, _⟩ => ⟨S104x104, .i32⟩
  | .hbm, ⟨8, _⟩ => ⟨S104x104, .i32⟩
  | .hbm, ⟨9, _⟩ => ⟨S_, .i32⟩
  | .hbm, ⟨10, _⟩ => ⟨S104x104, .i32⟩
  | .hbm, ⟨11, _⟩ => ⟨S104x104, .i32⟩
  | .hbm, ⟨12, _⟩ => ⟨S104x104, .i1⟩
  | .hbm, ⟨13, _⟩ => ⟨S104x104, .f32⟩
  | .hbm, ⟨14, _⟩ => ⟨S104x104x1, .f32⟩
  | .hbm, ⟨15, _⟩ => ⟨S104x1x16, .f32⟩
  | .hbm, ⟨16, _⟩ => ⟨S104x104x16, .f32⟩
  | .hbm, ⟨17, _⟩ => ⟨S104x104x16, .f32⟩
  | .hbm, ⟨18, _⟩ => ⟨S104x104x16, .f32⟩
  | .hbm, ⟨19, _⟩ => ⟨S104x1664, .f32⟩
  | .hbm, ⟨20, _⟩ => ⟨S100x1664, .f32⟩
  | .hbm, ⟨21, _⟩ => ⟨S100x1664, .bf16⟩
  | .hbm, ⟨22, _⟩ => ⟨S_, .i32⟩
  | .hbm, ⟨23, _⟩ => ⟨S_, .f32⟩
  | .hbm, ⟨24, _⟩ => ⟨S104x32x16, .f32⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S104x16x16, .f32⟩
  | .hbm, ⟨33, _⟩ => ⟨S13x8x16x16, .f32⟩
  | .hbm, ⟨34, _⟩ => ⟨S104x16x16, .f32⟩
  | .hbm, ⟨35, _⟩ => ⟨S13x8x16x16, .f32⟩
  | .hbm, ⟨36, _⟩ => ⟨S1x8x1x8x1, .f32⟩
  | .hbm, ⟨37, _⟩ => ⟨S13x8x16x1x16, .f32⟩
  | .hbm, ⟨38, _⟩ => ⟨S13x8x16x8x16, .f32⟩
  | .hbm, ⟨39, _⟩ => ⟨S13x8x16x8x16, .f32⟩
  | .hbm, ⟨40, _⟩ => ⟨S13x8x16x8x16, .f32⟩
  | .hbm, ⟨41, _⟩ => ⟨S1x8x1x8x1, .f32⟩
  | .hbm, ⟨42, _⟩ => ⟨S13x8x16x1x16, .f32⟩
  | .hbm, ⟨43, _⟩ => ⟨S13x8x16x8x16, .f32⟩
  | .hbm, ⟨44, _⟩ => ⟨S13x8x16x8x16, .f32⟩
  | .hbm, ⟨45, _⟩ => ⟨S13x8x16x8x16, .f32⟩
  | .hbm, ⟨46, _⟩ => ⟨S13x128x128, .f32⟩
  | .hbm, ⟨47, _⟩ => ⟨S13x128x128, .bf16⟩
  | .hbm, ⟨48, _⟩ => ⟨S13x128x128, .f32⟩
  | .hbm, ⟨49, _⟩ => ⟨S13x128x128, .bf16⟩
  | .hbm, ⟨50, _⟩ => ⟨S_, .i32⟩
  | .hbm, ⟨51, _⟩ => ⟨S_, .f32⟩
  | .hbm, ⟨52, _⟩ => ⟨S104x16, .f32⟩
  | .hbm, ⟨53, _⟩ => ⟨S1x1664, .f32⟩
  | .hbm, ⟨54, _⟩ => ⟨S16384x1600, .f32⟩
  | .local _ .vmem, ⟨0, _⟩ => ⟨S1024x100, .f32⟩
  | .local _ .vmem, ⟨1, _⟩ => ⟨S1024x100, .f32⟩
  | .local _ .vmem, ⟨2, _⟩ => ⟨S100x1664, .bf16⟩
  | .local _ .vmem, ⟨3, _⟩ => ⟨S13x128x128, .bf16⟩
  | .local _ .vmem, ⟨4, _⟩ => ⟨S13x128x128, .bf16⟩
  | .local _ .vmem, ⟨5, _⟩ => ⟨S1x1664, .f32⟩
  | .local _ .vmem, ⟨6, _⟩ => ⟨S1024x1600, .f32⟩
  | .local _ .vmem, ⟨7, _⟩ => ⟨S1024x1600, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_c_1 : Ref sig .tc := ⟨.hbm, 22, rfl⟩
abbrev main_call0_call1_v0 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_c_2 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_v31 : Ref sig .tc := ⟨.hbm, 41, rfl⟩
abbrev main_call0_v32 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_v38 : Ref sig .tc := ⟨.hbm, 48, rfl⟩
abbrev main_call0_v39 : Ref sig .tc := ⟨.hbm, 49, rfl⟩
abbrev main_call0_c_3 : Ref sig .tc := ⟨.hbm, 50, rfl⟩
abbrev main_call0_call2_v0 : Ref sig .tc := ⟨.hbm, 51, rfl⟩
abbrev main_call0_v40 : Ref sig .tc := ⟨.hbm, 52, rfl⟩
abbrev main_call0_v41 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S13x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1664 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x100 : Shape := ⟨2, ![16384, 100]⟩
abbrev S100x16 : Shape := ⟨2, ![100, 16]⟩
abbrev S100x32x16 : Shape := ⟨3, ![100, 32, 16]⟩
abbrev S_ : Shape := ⟨0, ![]⟩
abbrev S1x100x16 : Shape := ⟨3, ![1, 100, 16]⟩
abbrev S16384x100x1 : Shape := ⟨3, ![16384, 100, 1]⟩
abbrev S16384x100x16 : Shape := ⟨3, ![16384, 100, 16]⟩
abbrev S16384x100x32 : Shape := ⟨3, ![16384, 100, 32]⟩
abbrev S100x16x16384 : Shape := ⟨3, ![100, 16, 16384]⟩
abbrev S16384x1600 : Shape := ⟨2, ![16384, 1600]⟩

abbrev nBuf : Space → Nat
  | .hbm => 29
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S100x16, .f32⟩
  | .hbm, ⟨2, _⟩ => ⟨S100x32x16, .f32⟩
  | .hbm, ⟨3, _⟩ => ⟨S100x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x100x16, .f32⟩
  | .hbm, ⟨11, _⟩ => ⟨S1x100x16, .f32⟩
  | .hbm, ⟨12, _⟩ => ⟨S1x100x16, .f32⟩
  | .hbm, ⟨13, _⟩ => ⟨S16384x100x1, .f32⟩
  | .hbm, ⟨14, _⟩ => ⟨S16384x100x16, .f32⟩
  | .hbm, ⟨15, _⟩ => ⟨S16384x100x16, .f32⟩
  | .hbm, ⟨16, _⟩ => ⟨S16384x100x16, .f32⟩
  | .hbm, ⟨17, _⟩ => ⟨S16384x100x16, .f32⟩
  | .hbm, ⟨18, _⟩ => ⟨S16384x100x16, .f32⟩
  | .hbm, ⟨19, _⟩ => ⟨S16384x100x32, .f32⟩
  | .hbm, ⟨20, _⟩ => ⟨S100x16x16384, .f32⟩
  | .hbm, ⟨21, _⟩ => ⟨S16384x100x16, .f32⟩
  | .hbm, ⟨22, _⟩ => ⟨S1x100x16, .f32⟩
  | .hbm, ⟨23, _⟩ => ⟨S16384x100x16, .f32⟩
  | .hbm, ⟨24, _⟩ => ⟨S16384x100x16, .f32⟩
  | .hbm, ⟨25, _⟩ => ⟨S_, .f32⟩
  | .hbm, ⟨26, _⟩ => ⟨S16384x100x16, .f32⟩
  | .hbm, ⟨27, _⟩ => ⟨S16384x100x16, .f32⟩
  | .hbm, ⟨28, _⟩ => ⟨S16384x1600, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Exact.lean ====
abbrev S16384x100 : Shape := ⟨2, ![16384, 100]⟩
abbrev S100x16 : Shape := ⟨2, ![100, 16]⟩
abbrev S100x32x16 : Shape := ⟨3, ![100, 32, 16]⟩
abbrev S_ : Shape := ⟨0, ![]⟩
abbrev S104x16 : Shape := ⟨2, ![104, 16]⟩
abbrev S104x104 : Shape := ⟨2, ![104, 104]⟩
abbrev S104x104x1 : Shape := ⟨3, ![104, 104, 1]⟩
abbrev S104x1x16 : Shape := ⟨3, ![104, 1, 16]⟩
abbrev S104x104x16 : Shape := ⟨3, ![104, 104, 16]⟩
abbrev S104x1664 : Shape := ⟨2, ![104, 1664]⟩
abbrev S100x1664 : Shape := ⟨2, ![100, 1664]⟩
abbrev S104x32x16 : Shape := ⟨3, ![104, 32, 16]⟩
abbrev S8x8 : Shape := ⟨2, ![8, 8]⟩
abbrev S104x16x16 : Shape := ⟨3, ![104, 16, 16]⟩
abbrev S13x8x16x16 : Shape := ⟨4, ![13, 8, 16, 16]⟩
abbrev S1x8x1x8x1 : Shape := ⟨5, ![1, 8, 1, 8, 1]⟩
abbrev S13x8x16x1x16 : Shape := ⟨5, ![13, 8, 16, 1, 16]⟩
abbrev S13x8x16x8x16 : Shape := ⟨5, ![13, 8, 16, 8, 16]⟩
abbrev S13x128x128 : Shape := ⟨3, ![13, 128, 128]⟩
abbrev S1x1664 : Shape := ⟨2, ![1, 1664]⟩
abbrev S16384x1600 : Shape := ⟨2, ![16384, 1600]⟩
abbrev S1024x100 : Shape := ⟨2, ![1024, 100]⟩
abbrev S1024x1600 : Shape := ⟨2, ![1024, 1600]⟩
abbrev S1024x1664 : Shape := ⟨2, ![1024, 1664]⟩
abbrev S1024x128 : Shape := ⟨2, ![1024, 128]⟩
abbrev S1x128x128 : Shape := ⟨3, ![1, 128, 128]⟩
abbrev S128x128 : Shape := ⟨2, ![128, 128]⟩

abbrev nBuf : Space → Nat
  | .hbm => 55
  | .vmem => 8
  | .smem => 0
  | _ => 0

abbrev bufTy : (tb : Table) → Fin (tcTables nBuf tb) → BufTy
  | .hbm, ⟨0, _⟩ => ⟨S16384x100, .f32⟩
  | .hbm, ⟨1, _⟩ => ⟨S100x16, .f32⟩
  | .hbm, ⟨2, _⟩ => ⟨S100x32x16, .f32⟩
  | .hbm, ⟨3, _⟩ => ⟨S100x16, .f32⟩
  | .hbm, ⟨4, _⟩ => ⟨S_, .i32⟩
  | .hbm, ⟨5, _⟩ => ⟨S_, .f32⟩
  | .hbm, ⟨6, _⟩ => ⟨S104x16, .f32⟩
  | .hbm, ⟨7, _⟩ => ⟨S104x104, .i32⟩
  | .hbm, ⟨8, _⟩ => ⟨S104x104, .i32⟩
  | .hbm, ⟨9, _⟩ => ⟨S_, .i32⟩
  | .hbm, ⟨10, _⟩ => ⟨S104x104, .i32⟩
  | .hbm, ⟨11, _⟩ => ⟨S104x104, .i32⟩
  | .hbm, ⟨12, _⟩ => ⟨S104x104, .i1⟩
  | .hbm, ⟨13, _⟩ => ⟨S104x104, .f32⟩
  | .hbm, ⟨14, _⟩ => ⟨S104x104x1, .f32⟩
  | .hbm, ⟨15, _⟩ => ⟨S104x1x16, .f32⟩
  | .hbm, ⟨16, _⟩ => ⟨S104x104x16, .f32⟩
  | .hbm, ⟨17, _⟩ => ⟨S104x104x16, .f32⟩
  | .hbm, ⟨18, _⟩ => ⟨S104x104x16, .f32⟩
  | .hbm, ⟨19, _⟩ => ⟨S104x1664, .f32⟩
  | .hbm, ⟨20, _⟩ => ⟨S100x1664, .f32⟩
  | .hbm, ⟨21, _⟩ => ⟨S100x1664, .bf16⟩
  | .hbm, ⟨22, _⟩ => ⟨S_, .i32⟩
  | .hbm, ⟨23, _⟩ => ⟨S_, .f32⟩
  | .hbm, ⟨24, _⟩ => ⟨S104x32x16, .f32⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S104x16x16, .f32⟩
  | .hbm, ⟨33, _⟩ => ⟨S13x8x16x16, .f32⟩
  | .hbm, ⟨34, _⟩ => ⟨S104x16x16, .f32⟩
  | .hbm, ⟨35, _⟩ => ⟨S13x8x16x16, .f32⟩
  | .hbm, ⟨36, _⟩ => ⟨S1x8x1x8x1, .f32⟩
  | .hbm, ⟨37, _⟩ => ⟨S13x8x16x1x16, .f32⟩
  | .hbm, ⟨38, _⟩ => ⟨S13x8x16x8x16, .f32⟩
  | .hbm, ⟨39, _⟩ => ⟨S13x8x16x8x16, .f32⟩
  | .hbm, ⟨40, _⟩ => ⟨S13x8x16x8x16, .f32⟩
  | .hbm, ⟨41, _⟩ => ⟨S1x8x1x8x1, .f32⟩
  | .hbm, ⟨42, _⟩ => ⟨S13x8x16x1x16, .f32⟩
  | .hbm, ⟨43, _⟩ => ⟨S13x8x16x8x16, .f32⟩
  | .hbm, ⟨44, _⟩ => ⟨S13x8x16x8x16, .f32⟩
  | .hbm, ⟨45, _⟩ => ⟨S13x8x16x8x16, .f32⟩
  | .hbm, ⟨46, _⟩ => ⟨S13x128x128, .f32⟩
  | .hbm, ⟨47, _⟩ => ⟨S13x128x128, .bf16⟩
  | .hbm, ⟨48, _⟩ => ⟨S13x128x128, .f32⟩
  | .hbm, ⟨49, _⟩ => ⟨S13x128x128, .bf16⟩
  | .hbm, ⟨50, _⟩ => ⟨S_, .i32⟩
  | .hbm, ⟨51, _⟩ => ⟨S_, .f32⟩
  | .hbm, ⟨52, _⟩ => ⟨S104x16, .f32⟩
  | .hbm, ⟨53, _⟩ => ⟨S1x1664, .f32⟩
  | .hbm, ⟨54, _⟩ => ⟨S16384x1600, .f32⟩
  | .local _ .vmem, ⟨0, _⟩ => ⟨S1024x100, .f32⟩
  | .local _ .vmem, ⟨1, _⟩ => ⟨S1024x100, .f32⟩
  | .local _ .vmem, ⟨2, _⟩ => ⟨S100x1664, .bf16⟩
  | .local _ .vmem, ⟨3, _⟩ => ⟨S13x128x128, .bf16⟩
  | .local _ .vmem, ⟨4, _⟩ => ⟨S13x128x128, .bf16⟩
  | .local _ .vmem, ⟨5, _⟩ => ⟨S1x1664, .f32⟩
  | .local _ .vmem, ⟨6, _⟩ => ⟨S1024x1600, .f32⟩
  | .local _ .vmem, ⟨7, _⟩ => ⟨S1024x1600, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_c_1 : Ref sig .tc := ⟨.hbm, 22, rfl⟩
abbrev main_call0_call1_v0 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_c_2 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_v31 : Ref sig .tc := ⟨.hbm, 41, rfl⟩
abbrev main_call0_v32 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_v38 : Ref sig .tc := ⟨.hbm, 48, rfl⟩
abbrev main_call0_v39 : Ref sig .tc := ⟨.hbm, 49, rfl⟩
abbrev main_call0_c_3 : Ref sig .tc := ⟨.hbm, 50, rfl⟩
abbrev main_call0_call2_v0 : Ref sig .tc := ⟨.hbm, 51, rfl⟩
abbrev main_call0_v40 : Ref sig .tc := ⟨.hbm, 52, rfl⟩
abbrev main_call0_v41 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S13x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1664 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExactIdeal.lean ====
variable {F : FTy → Type} [FloatOps F] [Named F]
def κ : String → Option EReal := fun
  | "two_pi" => some ((2 * Real.pi : ℝ) : EReal)
  | _ => none
-- ==== Proof.Arrays.lean ====
/-
  The four arrays the kernel lays out before its grid runs, read at an index.

  Of the coefficients it makes one matrix whose column `16 p + k` has the coefficient `(p, k)` in row `p` and
  zeros elsewhere; of the weights, for the cosine half and for the sine half, thirteen matrices of eight
  diagonal blocks each; of the bias, one row. Each is the product of a 0/1 comparison of two coordinates with a
  padded argument array, so each is a conditional at an index.
-/
module

public import proofs.«01_k».proof.Proof.Gen.KernelIdeal
public import Idealize.ShloMosaic.Lib.Pointwise
public import Idealize.ShloMosaic.Lib.Pipeline.ValueKit

@[expose] public section

set_option maxRecDepth 16384

noncomputable section

open Idealize.ShloMosaic

namespace Cert.Periodic

open Cert.KernelIdeal Cert.KernelIdeal.Gen

/-- 1 where the two coordinates of a `104 × 104` index agree, 0 elsewhere. -/
def eye104 : FVec Ideal S104x104 .f32 :=
  uitofp .f32 (cmpi .eq (addi (iotaInDim S104x104 32 0) (broadcastInDim S104x104 ![] bcast_S_S104x104 (constantI S_ 32 0#32)))
    (iotaInDim S104x104 32 1))

/-- 1 where the two coordinates of an `8 × 8` index agree, 0 elsewhere. -/
def eye8 : FVec Ideal S8x8 .f32 :=
  uitofp .f32 (cmpi .eq (addi (iotaInDim S8x8 32 0) (broadcastInDim S8x8 ![] bcast_S_S8x8 (constantI S_ 32 0#32)))
    (iotaInDim S8x8 32 1))

/-- The coefficients spread out: column `16 p + k` holds the coefficient `(p, k)` in row `p`. -/
def coefMat (co : FVec Ideal S100x16 .f32) : FVec Ideal S100x1664 .bf16 :=
  truncf .bf16 (extractStridedSlice S100x1664 ![0, 0] (shapeCast S104x1664 (mulf
    (broadcastInDim S104x104x16 ![0, 1, 2] bcast_S104x104x1_S104x104x16_0_1_2
      (broadcastInDim S104x104x1 ![0, 1] bcast_S104x104_S104x104x1_0_1 eye104))
    (broadcastInDim S104x104x16 ![0, 1, 2] bcast_S104x1x16_S104x104x16_0_1_2
      (broadcastInDim S104x1x16 ![0, 2] bcast_S104x16_S104x1x16_0_2
        (pad S104x16 ![0, 0] ![4, 0] ![0, 0] co (sitofp .f32 (constantI S_ 32 0#32)) pads_S100x16_S104x16_040_000 h_S_))))
    shapeCasts_S104x104x16_S104x1664) slices_S104x1664_S100x1664_0_0) bitsLt_bf16_f32

/-- One half of the weights as thirteen block-diagonal matrices; `o` says at which row of the 32 the half starts. -/
def weightMat (o : Fin 3 → Nat) (ho : Shape.Slices S104x32x16 o S104x16x16) (w : FVec Ideal S100x32x16 .f32) :
    FVec Ideal S13x128x128 .bf16 :=
  truncf .bf16 (shapeCast S13x128x128 (mulf
    (broadcastInDim S13x8x16x8x16 ![0, 1, 2, 3, 4] bcast_S1x8x1x8x1_S13x8x16x8x16_0_1_2_3_4
      (broadcastInDim S1x8x1x8x1 ![1, 3] bcast_S8x8_S1x8x1x8x1_1_3 eye8))
    (broadcastInDim S13x8x16x8x16 ![0, 1, 2, 3, 4] bcast_S13x8x16x1x16_S13x8x16x8x16_0_1_2_3_4
      (broadcastInDim S13x8x16x1x16 ![0, 1, 2, 4] bcast_S13x8x16x16_S13x8x16x1x16_0_1_2_4
        (shapeCast S13x8x16x16 (extractStridedSlice S104x16x16 o
          (pad S104x32x16 ![0, 0, 0] ![4, 0, 0] ![0, 0, 0] w (sitofp .f32 (constantI S_ 32 0#32))
            pads_S100x32x16_S104x32x16_040_000_000 h_S_) ho) shapeCasts_S104x16x16_S13x8x16x16))))
    shapeCasts_S13x8x16x8x16_S13x128x128) bitsLt_bf16_f32

/-- The bias as one row of 1664 entries. -/
def biasRow (b : FVec Ideal S100x16 .f32) : FVec Ideal S1x1664 .f32 :=
  shapeCast S1x1664 (pad S104x16 ![0, 0] ![4, 0] ![0, 0] b (sitofp .f32 (constantI S_ 32 0#32))
    pads_S100x16_S104x16_040_000 h_S_) shapeCasts_S104x16_S1x1664

/-- The comparison of two small numbers, converted: 1 if they are equal, 0 if not. -/
theorem agree (i j : ℕ) (hi : i < 2000) (hj : j < 2000) :
    (FloatOps.uitofp (F := Ideal) .f32
      (IntOp.cmpi CmpIPredicate.eq (IntOp.addi (BitVec.ofNat 32 i) 0#32) (BitVec.ofNat 32 j)) : EReal)
      = if i = j then 1 else 0 := by
  have e : (BitVec.ofNat 32 i = BitVec.ofNat 32 j) ↔ i = j := by
    constructor
    · intro h
      have h' := congrArg BitVec.toNat h
      rw [BitVec.toNat_ofNat, BitVec.toNat_ofNat] at h'
      omega
    · intro h; rw [h]
  show (((IntOp.cmpi CmpIPredicate.eq (IntOp.addi (BitVec.ofNat 32 i) 0#32) (BitVec.ofNat 32 j)).toNat : ℝ) : EReal) = _
  unfold IntOp.cmpi IntOp.addi
  rw [BitVec.add_zero]
  by_cases h : i = j
  · subst h
    simp
  · simp [e, h]

/-- A 0/1 factor as a condition. -/
theorem one_zero_mul {P Q : Prop} [Decidable P] [Decidable Q] {x y : EReal} (hq : P ↔ Q) (h : P → x = y) :
    ((if P then 1 else 0 : EReal) * x) = if Q then y else 0 := by
  by_cases hp : P
  · rw [if_pos hp, if_pos (hq.1 hp), one_mul, h hp]
  · rw [if_neg hp, if_neg fun q => hp (hq.2 q), zero_mul]

/-- The spread coefficients at an index: `(p, k)` in row `p` of column `16 p + k`, and 0 off that row. -/
theorem coefMat_at (co : FVec Ideal S100x16 .f32) (i p : Fin 100) (k : Fin 16) (a : Fin 1664) (ha : a.val = 16 * p.val + k.val) :
    coefMat co (ix2 i a) = (if i.val = p.val then co (ix2 p k) else 0 : EReal) := by
  have h1 : a.val / 16 = p.val := by omega
  have h2 : a.val % 16 = k.val := by omega
  pointwise [coefMat, eye104]
  refine (Ideal.mul_congr (agree i.val (a.val / 16) (by omega) (by omega)) rfl).trans ?_
  refine one_zero_mul (by rw [h1]) fun h => ?_
  rw [dif_pos (by omega)]
  blk_ext

/-- The cosine half of the weights at an index of matrix `g`. -/
theorem weightMat_cos_at (w : FVec Ideal S100x32x16 .f32) (p : Fin 100) (g : Fin 13) (a b : Fin 128)
    (hp : p.val = 8 * g.val + b.val / 16) :
    weightMat ![0, 0, 0] slices_S104x32x16_S104x16x16_0_0_0 w (ix3 g a b)
      = (if a.val / 16 = b.val / 16 then w (ix3 p ⟨a.val % 16, by omega⟩ ⟨b.val % 16, by omega⟩) else 0 : EReal) := by
  pointwise [weightMat, eye8]
  refine (Ideal.mul_congr (agree (a.val / 16) (b.val / 16) (by omega) (by omega)) rfl).trans ?_
  refine one_zero_mul Iff.rfl fun h => ?_
  rw [dif_pos (by omega)]
  blk_ext

/-- The sine half of the weights at an index of matrix `g`. -/
theorem weightMat_sin_at (w : FVec Ideal S100x32x16 .f32) (p : Fin 100) (g : Fin 13) (a b : Fin 128)
    (hp : p.val = 8 * g.val + b.val / 16) :
    weightMat ![0, 16, 0] slices_S104x32x16_S104x16x16_0_16_0 w (ix3 g a b)
      = (if a.val / 16 = b.val / 16 then w (ix3 p ⟨16 + a.val % 16, by omega⟩ ⟨b.val % 16, by omega⟩) else 0 : EReal) := by
  pointwise [weightMat, eye8]
  refine (Ideal.mul_congr (agree (a.val / 16) (b.val / 16) (by omega) (by omega)) rfl).trans ?_
  refine one_zero_mul Iff.rfl fun h => ?_
  rw [dif_pos (by omega)]
  blk_ext

/-- The bias row at an index. -/
theorem biasRow_at (b : FVec Ideal S100x16 .f32) (p : Fin 100) (k : Fin 16) (a : Fin 1664) (ha : a.val = 16 * p.val + k.val) :
    biasRow b (ix2 0 a) = b (ix2 p k) := by
  have h1 : a.val / 16 = p.val := by omega
  have h2 : a.val % 16 = k.val := by omega
  pointwise [biasRow]
  rw [dif_pos (by omega)]
  blk_ext

end Cert.Periodic
-- ==== Proof.Body.lean ====
/-
  One grid point's block, read at an index, for both programs.

  The body multiplies the two feature blocks, 128 lanes at a time, with the 128 × 128 matrices of the two weight
  arrays, puts the thirteen sums side by side, adds the bias row, cuts at zero and keeps the first 1600 lanes. Only
  the features differ between the two programs, so the block is written once over any features.
-/
module

public import proofs.«01_k».proof.Proof.Gen.KernelIdeal.Frame
public import proofs.«01_k».proof.Proof.Gen.ExactIdeal.Frame
public import Idealize.ShloMosaic.Lib.Pointwise
public import Idealize.ShloMosaic.Lib.Pipeline.ValueKit

@[expose] public section

set_option maxRecDepth 16384

noncomputable section

open Idealize.ShloMosaic

namespace Cert.Periodic

open Cert.KernelIdeal Cert.KernelIdeal.Gen

theorem slab_slices (g : Fin 13) : Shape.Slices S1024x1664 ![0, 128 * g.val] S1024x128 := by
  revert g; decide

theorem slab_inb (g : Fin 13) : ∀ a, (![g.val, 0, 0] : Fin S13x128x128.rank → Nat) a + S1x128x128.size a ≤ S13x128x128.size a := by
  revert g; decide

/-- Matrix `g` of a stack of thirteen. -/
def slab (w : Vec Ideal S13x128x128 .bf16) (g : Fin 13) : FVec Ideal S128x128 .bf16 :=
  shapeCast S128x128 (View.ld w (Rect.unit ![g.val, 0, 0] S1x128x128.size (slab_inb g)) : Vec Ideal S1x128x128 .bf16)
    shapeCasts_S1x128x128_S128x128

/-- The lanes `128 g … 128 g + 127` of one feature block times matrix `g`. -/
def half (h : FVec Ideal S1024x1664 .bf16) (w : Vec Ideal S13x128x128 .bf16) (g : Fin 13) : FVec Ideal S1024x128 .f32 :=
  matmul dot_S1024x128_S128x128_S1024x128_1_0_0_1_n_n none (extractStridedSlice S1024x128 ![0, 128 * g.val] h (slab_slices g))
    (slab w g) (constant S1024x128 .f32 0x00000000#32)

def both (hc hs : FVec Ideal S1024x1664 .bf16) (wc ws : Vec Ideal S13x128x128 .bf16) (g : Fin 13) : FVec Ideal S1024x128 .f32 :=
  addf (half hc wc g) (half hs ws g)

theorem both_fit (hc hs : FVec Ideal S1024x1664 .bf16) (wc ws : Vec Ideal S13x128x128 .bf16) :
    Shape.Concatenates ((List.ofFn fun g : Fin 13 => (⟨S1024x128, both hc hs wc ws g⟩ : (s : Shape) × (s.Idx → Elt Ideal .f32))).map (·.1))
      S1024x1664 1 := by
  rw [List.map_ofFn]
  change Shape.Concatenates (List.ofFn fun _ : Fin 13 => S1024x128) S1024x1664 1
  decide

/-- The block of results over its features, weights and bias. -/
def block (hc hs : FVec Ideal S1024x1664 .bf16) (wc ws : Vec Ideal S13x128x128 .bf16) (be : Vec Ideal S1x1664 .f32) :
    FVec Ideal S1024x1600 .f32 :=
  extractStridedSlice S1024x1600 ![0, 0]
    (maximumf
      (addf (concatenate S1024x1664 1 (List.ofFn fun g : Fin 13 => (⟨S1024x128, both hc hs wc ws g⟩ : (s : Shape) × (s.Idx → Elt Ideal .f32)))
          (both_fit hc hs wc ws))
        (broadcastTo S1024x1664 (shapeCast S1x1664 be shapeCasts_S1x1664_S1x1664) broadcasts_S1x1664_S1024x1664))
      (broadcast S1024x1664 (Scalar.ofBits .f32 0x00000000#32 : Ideal .f32)))
    slices_S1024x1664_o0_0_S1024x1600

/-- The block over any thirteen sums that are the ones of `both`, listed one by one. -/
theorem block_of_list (hc hs : FVec Ideal S1024x1664 .bf16) (wc ws : Vec Ideal S13x128x128 .bf16) (be : Vec Ideal S1x1664 .f32)
    (l : List ((s : Shape) × (s.Idx → Elt Ideal .f32)))
    (hl : l = List.ofFn fun g : Fin 13 => (⟨S1024x128, both hc hs wc ws g⟩ : (s : Shape) × (s.Idx → Elt Ideal .f32)))
    (fit : Shape.Concatenates (l.map (·.1)) S1024x1664 1) :
    extractStridedSlice S1024x1600 ![0, 0]
      (maximumf
        (addf (F := Ideal) (concatenate S1024x1664 1 l fit : FVec Ideal S1024x1664 .f32)
          (broadcastTo S1024x1664 (shapeCast S1x1664 be shapeCasts_S1x1664_S1x1664) broadcasts_S1x1664_S1024x1664))
        (broadcast S1024x1664 (Scalar.ofBits .f32 0x00000000#32 : Ideal .f32)))
      slices_S1024x1664_o0_0_S1024x1600 = block hc hs wc ws be := by
  subst hl
  rfl

theorem ofFn13 {α : Type} (f : Fin 13 → α) :
    List.ofFn f = [f 0, f 1, f 2, f 3, f 4, f 5, f 6, f 7, f 8, f 9, f 10, f 11, f 12] := by
  simp [List.ofFn_succ]
  repeat' constructor

/-- `both` at a numeral, with the lane offset and the rectangle as a body spells them. -/
theorem both_lit (hc hs : FVec Ideal S1024x1664 .bf16) (wc ws : Vec Ideal S13x128x128 .bf16) (n o : Nat) (hn : n < 13) (ho : o = 128 * n)
    (fit : Shape.Slices S1024x1664 ![0, o] S1024x128)
    (inb : ∀ a, (![n, 0, 0] : Fin S13x128x128.rank → Nat) a + S1x128x128.size a ≤ S13x128x128.size a) :
    addf (matmul dot_S1024x128_S128x128_S1024x128_1_0_0_1_n_n none (extractStridedSlice S1024x128 ![0, o] hc fit)
        (shapeCast S128x128 (View.ld wc (Rect.unit ![n, 0, 0] S1x128x128.size inb) : Vec Ideal S1x128x128 .bf16) shapeCasts_S1x128x128_S128x128 : FVec Ideal S128x128 .bf16)
        (constant S1024x128 .f32 0x00000000#32))
      (matmul dot_S1024x128_S128x128_S1024x128_1_0_0_1_n_n none (extractStridedSlice S1024x128 ![0, o] hs fit)
        (shapeCast S128x128 (View.ld ws (Rect.unit ![n, 0, 0] S1x128x128.size inb) : Vec Ideal S1x128x128 .bf16) shapeCasts_S1x128x128_S128x128 : FVec Ideal S128x128 .bf16)
        (constant S1024x128 .f32 0x00000000#32)) = both hc hs wc ws ⟨n, hn⟩ := by
  subst ho
  rfl

theorem kernel_block (x0 : Vec Ideal S1024x100 .f32) (x1 : Vec Ideal S100x1664 .bf16) (x2 x3 : Vec Ideal S13x128x128 .bf16)
    (x4 : Vec Ideal S1x1664 .f32) :
    KernelIdeal.Gen.out0_5 (F := Ideal) x0 x1 x2 x3 x4 = block (KernelIdeal.Gen.k0_pay5 x0 x1) (KernelIdeal.Gen.k0_pay6 x0 x1) x2 x3 x4 := by
  frame_out [k0_pay26, k0_pay27]
  simp only [KernelIdeal.Gen.k0_pay1, KernelIdeal.Gen.k0_pay2, KernelIdeal.Gen.k0_pay7, KernelIdeal.Gen.k0_pay8, KernelIdeal.Gen.k0_pay9, KernelIdeal.Gen.k0_pay10, KernelIdeal.Gen.k0_pay11, KernelIdeal.Gen.k0_pay12, KernelIdeal.Gen.k0_pay13, KernelIdeal.Gen.k0_pay14, KernelIdeal.Gen.k0_pay15, KernelIdeal.Gen.k0_pay16, KernelIdeal.Gen.k0_pay17, KernelIdeal.Gen.k0_pay18, KernelIdeal.Gen.k0_pay19, KernelIdeal.Gen.k0_pay20, KernelIdeal.Gen.k0_pay21, KernelIdeal.Gen.k0_pay22, KernelIdeal.Gen.k0_pay23, KernelIdeal.Gen.k0_pay24, KernelIdeal.Gen.k0_pay25]
  refine block_of_list _ _ _ _ _ _ ?_ _
  rw [ofFn13]
  iterate 13
    refine congrArg₂ List.cons (congrArg (Sigma.mk S1024x128) ?_) ?_
    · exact both_lit _ _ _ _ _ _ _ (by rfl) _ _
  rfl

theorem exact_block (x0 : Vec Ideal S1024x100 .f32) (x1 : Vec Ideal S100x1664 .bf16) (x2 x3 : Vec Ideal S13x128x128 .bf16)
    (x4 : Vec Ideal S1x1664 .f32) :
    ExactIdeal.Gen.out0_5 (F := Ideal) x0 x1 x2 x3 x4 = block (ExactIdeal.Gen.k0_pay3 x0 x1) (ExactIdeal.Gen.k0_pay4 x0 x1) x2 x3 x4 := by
  frame_out [ExactIdeal.Gen.k0_pay23, ExactIdeal.Gen.k0_pay24]
  simp only [ExactIdeal.Gen.k0_pay1, ExactIdeal.Gen.k0_pay5, ExactIdeal.Gen.k0_pay6, ExactIdeal.Gen.k0_pay7, ExactIdeal.Gen.k0_pay8, ExactIdeal.Gen.k0_pay9, ExactIdeal.Gen.k0_pay10, ExactIdeal.Gen.k0_pay11, ExactIdeal.Gen.k0_pay12, ExactIdeal.Gen.k0_pay13, ExactIdeal.Gen.k0_pay14, ExactIdeal.Gen.k0_pay15, ExactIdeal.Gen.k0_pay16, ExactIdeal.Gen.k0_pay17, ExactIdeal.Gen.k0_pay18, ExactIdeal.Gen.k0_pay19, ExactIdeal.Gen.k0_pay20, ExactIdeal.Gen.k0_pay21, ExactIdeal.Gen.k0_pay22]
  refine block_of_list _ _ _ _ _ _ ?_ _
  rw [ofFn13]
  iterate 13
    refine congrArg₂ List.cons (congrArg (Sigma.mk S1024x128) ?_) ?_
    · exact both_lit _ _ _ _ _ _ _ (by rfl) _ _
  rfl

theorem slab_at (w : Vec Ideal S13x128x128 .bf16) (g : Fin 13) (a b : Fin 128) : slab w g (ix2 a b) = w (ix3 g a b) := by
  refine (shapeCast_dropUnit_apply ![128, 128] _ _ _).trans ?_
  exact View.ld_unit_apply_of _ _ _ _ _ _ fun i => by
    fin_cases i <;> simp <;> rfl

theorem half_at (h : FVec Ideal S1024x1664 .bf16) (w : Vec Ideal S13x128x128 .bf16) (g : Fin 13) (r : Fin 1024) (j : Fin 128) :
    half h w g (ix2 r j) = (∑ a : Fin 128, h (ix2 r ⟨128 * g.val + a.val, by have := g.isLt; have := a.isLt; omega⟩) * w (ix3 g a j) : EReal) := by
  unfold half
  pointwise
  simp only [slab_at]

theorem block_at (hc hs : FVec Ideal S1024x1664 .bf16) (wc ws : Vec Ideal S13x128x128 .bf16) (be : Vec Ideal S1x1664 .f32)
    (r : Fin 1024) (j : Fin 1600) (g : Fin 13) (d : Fin 128) (hj : j.val = 128 * g.val + d.val) :
    block hc hs wc ws be (ix2 r j)
      = (max ((∑ a : Fin 128, hc (ix2 r ⟨128 * g.val + a.val, by have := g.isLt; have := a.isLt; omega⟩) * wc (ix3 g a d))
          + (∑ a : Fin 128, hs (ix2 r ⟨128 * g.val + a.val, by have := g.isLt; have := a.isLt; omega⟩) * ws (ix3 g a d))
          + be (ix2 0 ⟨j.val, by have := j.isLt; omega⟩)) 0 : EReal) := by
  unfold block
  have hcat : concatenate S1024x1664 1 (List.ofFn fun g : Fin 13 => (⟨S1024x128, both hc hs wc ws g⟩ : (s : Shape) × (s.Idx → Elt Ideal .f32)))
      (both_fit hc hs wc ws) (ix2 r ⟨j.val, by have := j.isLt; omega⟩) = both hc hs wc ws g (ix2 r d) := by
    refine concatenate_ofFn_apply (s₁ := S1024x128) (1 : Fin S1024x1664.rank) _ _ rfl 128 rfl _ g ?_ _ ?_ ?_
    · have := d.isLt
      change j.val / 128 = g.val
      omega
    · have := d.isLt
      change d.val = j.val % 128
      omega
    · intro b hb
      fin_cases b
      · rfl
      · exact absurd rfl hb
  generalize concatenate S1024x1664 1 _ (both_fit hc hs wc ws) = X at hcat ⊢
  pointwise
  refine congrArg (fun z : EReal => max (z + be (ix2 0 ⟨j.val, by have := j.isLt; omega⟩)) 0) (hcat.trans ?_)
  unfold both
  pointwise
  exact congrArg₂ (· + · : EReal → EReal → EReal) (half_at hc wc g r d) (half_at hs ws g r d)

end Cert.Periodic
-- ==== Proof.Entry.lean ====
/-
  One entry of the block of results, once the four laid-out arrays are put in: the features of the entry's own
  input feature against its sixteen cosine weights and its sixteen sine weights, plus its bias, cut at zero.
-/
module

public import proofs.«01_k».proof.Proof.Arrays
public import proofs.«01_k».proof.Proof.Body

@[expose] public section

set_option maxRecDepth 16384

noncomputable section

open Idealize.ShloMosaic

namespace Cert.Periodic

open Cert.KernelIdeal Cert.KernelIdeal.Gen

/-- A row against a column that is zero off one place. -/
theorem sum_one (f : Fin 100 → EReal) (c : EReal) (p : Fin 100) :
    (∑ i : Fin 100, f i * (if i.val = p.val then c else 0)) = f p * c := by
  rw [Finset.sum_eq_single p]
  · rw [if_pos rfl]
  · intro i _ hi
    rw [if_neg fun h => hi (Fin.ext h), mul_zero]
  · exact fun h => absurd (Finset.mem_univ p) h

/-- A row of 128 against a column that is zero off one group of sixteen. -/
theorem sum_group (f g : Fin 128 → EReal) (q : Nat) (hq : q < 8) :
    (∑ a : Fin 128, f a * (if a.val / 16 = q then g a else 0))
      = ∑ k : Fin 16, f ⟨16 * q + k.val, by have := k.isLt; omega⟩ * g ⟨16 * q + k.val, by have := k.isLt; omega⟩ := by
  symm
  refine Finset.sum_of_injOn (fun k : Fin 16 => (⟨16 * q + k.val, by have := k.isLt; omega⟩ : Fin 128)) ?_ ?_ ?_ ?_
  · intro k _ k' _ h
    have := Fin.val_eq_of_eq h
    simp only at this
    exact Fin.ext (by omega)
  · intro k _
    simp
  · intro a _ ha
    rw [if_neg, mul_zero]
    intro h
    exact ha ⟨⟨a.val % 16, Nat.mod_lt _ (by omega)⟩, by simp, Fin.ext (by simp only; omega)⟩
  · intro k _
    have := k.isLt
    rw [if_pos (by simp only; omega)]

/-- What one entry is over its scaled inputs `t`, its weights and its bias, for features `C` and `S`. -/
def entry (C S : EReal → EReal) (t : Fin 16 → EReal) (u v : Fin 16 → EReal) (b : EReal) : EReal :=
  max ((∑ k : Fin 16, C (t k) * u k) + (∑ k : Fin 16, S (t k) * v k) + b) 0

theorem half_sum (h : FVec Ideal S1024x1664 .bf16) (C : EReal → EReal) (x : Vec Ideal S1024x100 .f32) (co : FVec Ideal S100x16 .f32)
    (hC : ∀ r a, h (ix2 r a) = C (∑ i : Fin 100, x (ix2 r i) * coefMat co (ix2 i a) : EReal))
    (w : Vec Ideal S13x128x128 .bf16) (u : Fin 16 → EReal) (r : Fin 1024) (p : Fin 100) (g : Fin 13) (d : Fin 128)
    (hp : p.val = 8 * g.val + d.val / 16)
    (hw : ∀ a : Fin 128, w (ix3 g a d) = (if a.val / 16 = d.val / 16 then u ⟨a.val % 16, Nat.mod_lt _ (by omega)⟩ else 0 : EReal)) :
    (∑ a : Fin 128, h (ix2 r ⟨128 * g.val + a.val, by have := g.isLt; have := a.isLt; omega⟩) * w (ix3 g a d) : EReal)
      = ∑ k : Fin 16, C ((x (ix2 r p) : EReal) * co (ix2 p k)) * u k := by
  simp only [hw]
  refine (sum_group (fun a => h (ix2 r ⟨128 * g.val + a.val, by have := g.isLt; have := a.isLt; omega⟩))
    (fun a => u ⟨a.val % 16, Nat.mod_lt _ (by omega)⟩) (d.val / 16) (by have := d.isLt; omega)).trans ?_
  refine Finset.sum_congr rfl fun k _ => ?_
  have hk := k.isLt
  have hu : u ⟨(16 * (d.val / 16) + k.val) % 16, Nat.mod_lt _ (by omega)⟩ = u k := congrArg u (Fin.ext (by simp only; omega))
  refine Ideal.mul_congr ((hC _ _).trans (congrArg C ?_)) hu
  refine (Finset.sum_congr rfl fun i _ => Ideal.mul_congr rfl (coefMat_at co i p k _ (by simp only; omega))).trans ?_
  exact sum_one (fun i => x (ix2 r i)) _ p

theorem block_entry (hc hs : FVec Ideal S1024x1664 .bf16) (C S : EReal → EReal) (x : Vec Ideal S1024x100 .f32)
    (co : FVec Ideal S100x16 .f32) (w : FVec Ideal S100x32x16 .f32) (b : FVec Ideal S100x16 .f32)
    (hC : ∀ r a, hc (ix2 r a) = C (∑ i : Fin 100, x (ix2 r i) * coefMat co (ix2 i a) : EReal))
    (hS : ∀ r a, hs (ix2 r a) = S (∑ i : Fin 100, x (ix2 r i) * coefMat co (ix2 i a) : EReal))
    (r : Fin 1024) (j : Fin 1600) (p : Fin 100) (d : Fin 16) (hj : j.val = 16 * p.val + d.val) :
    block hc hs (weightMat ![0, 0, 0] slices_S104x32x16_S104x16x16_0_0_0 w) (weightMat ![0, 16, 0] slices_S104x32x16_S104x16x16_0_16_0 w)
        (biasRow b) (ix2 r j)
      = entry C S (fun k => (x (ix2 r p) : EReal) * co (ix2 p k))
          (fun k => w (ix3 p ⟨k.val, by have := k.isLt; omega⟩ d)) (fun k => w (ix3 p ⟨16 + k.val, by have := k.isLt; omega⟩ d))
          (b (ix2 p d)) := by
  have hp := p.isLt
  have hd := d.isLt
  let g : Fin 13 := ⟨j.val / 128, by omega⟩
  let e : Fin 128 := ⟨j.val % 128, Nat.mod_lt _ (by omega)⟩
  have hg : g.val = j.val / 128 := rfl
  have he : e.val = j.val % 128 := rfl
  have hpg : p.val = 8 * g.val + e.val / 16 := by omega
  have hde : (⟨e.val % 16, Nat.mod_lt _ (by omega)⟩ : Fin 16) = d := Fin.ext (by simp only; omega)
  refine (block_at _ _ _ _ _ r j g e (by omega)).trans ?_
  refine congrArg₂ max (Ideal.add_congr (Ideal.add_congr ?_ ?_) ?_) rfl
  · refine half_sum hc C x co hC _ _ r p g e hpg fun a => ?_
    refine (weightMat_cos_at w p g a e hpg).trans ?_
    rw [hde]
  · refine half_sum hs S x co hS _ _ r p g e hpg fun a => ?_
    refine (weightMat_sin_at w p g a e hpg).trans ?_
    rw [hde]
  · exact biasRow_at b p d _ hj

/-- The whole result over the arguments, for features `C` and `S`. -/
def answer (C S : EReal → EReal) (x : FVec Ideal KernelIdeal.S16384x100 .f32) (co : FVec Ideal KernelIdeal.S100x16 .f32)
    (w : FVec Ideal KernelIdeal.S100x32x16 .f32) (b : FVec Ideal KernelIdeal.S100x16 .f32) :
    FVec Ideal KernelIdeal.S16384x1600 .f32 := fun y =>
  let p : Fin 100 := ⟨(y 1).val / 16, by have : (y 1).val < 1600 := (y 1).isLt; omega⟩
  let d : Fin 16 := ⟨(y 1).val % 16, Nat.mod_lt _ (by omega)⟩
  entry C S (fun k => (x (ix2 (y 0) p) : EReal) * co (ix2 p k))
    (fun k => w (ix3 p ⟨k.val, by have := k.isLt; omega⟩ d)) (fun k => w (ix3 p ⟨16 + k.val, by have := k.isLt; omega⟩ d)) (b (ix2 p d))

theorem answer_at (C S : EReal → EReal) (x : FVec Ideal KernelIdeal.S16384x100 .f32) (co : FVec Ideal KernelIdeal.S100x16 .f32)
    (w : FVec Ideal KernelIdeal.S100x32x16 .f32) (b : FVec Ideal KernelIdeal.S100x16 .f32) (R : Fin 16384) (j : Fin 1600)
    (p : Fin 100) (d : Fin 16) (hj : j.val = 16 * p.val + d.val) :
    answer C S x co w b (ix2 R j) = entry C S (fun k => (x (ix2 R p) : EReal) * co (ix2 p k))
      (fun k => w (ix3 p ⟨k.val, by have := k.isLt; omega⟩ d)) (fun k => w (ix3 p ⟨16 + k.val, by have := k.isLt; omega⟩ d))
      (b (ix2 p d)) := by
  have hd := d.isLt
  have hp : (⟨j.val / 16, by have := j.isLt; omega⟩ : Fin 100) = p := Fin.ext (by simp only; omega)
  have hd : (⟨j.val % 16, Nat.mod_lt _ (by omega)⟩ : Fin 16) = d := Fin.ext (by simp only; omega)
  have key : ∀ (p' : Fin 100) (d' : Fin 16), p' = p → d' = d →
      entry C S (fun k => (x (ix2 R p') : EReal) * co (ix2 p' k))
        (fun k => w (ix3 p' ⟨k.val, by have := k.isLt; omega⟩ d')) (fun k => w (ix3 p' ⟨16 + k.val, by have := k.isLt; omega⟩ d'))
        (b (ix2 p' d'))
      = entry C S (fun k => (x (ix2 R p) : EReal) * co (ix2 p k))
        (fun k => w (ix3 p ⟨k.val, by have := k.isLt; omega⟩ d)) (fun k => w (ix3 p ⟨16 + k.val, by have := k.isLt; omega⟩ d))
        (b (ix2 p d)) := fun _ _ h h' => by rw [h, h']
  exact key _ _ hp hd

/-- The block of point `t` is the rows `1024 t …` of the whole result. -/
theorem block_answer (hc hs : FVec Ideal KernelIdeal.S1024x1664 .bf16) (C S : EReal → EReal) (x0 : Vec Ideal KernelIdeal.S1024x100 .f32)
    (x : FVec Ideal KernelIdeal.S16384x100 .f32)
    (co : FVec Ideal KernelIdeal.S100x16 .f32) (w : FVec Ideal KernelIdeal.S100x32x16 .f32) (b : FVec Ideal KernelIdeal.S100x16 .f32)
    (hC : ∀ r a, hc (ix2 r a) = C (∑ i : Fin 100, x0 (ix2 r i) * coefMat co (ix2 i a) : EReal))
    (hS : ∀ r a, hs (ix2 r a) = S (∑ i : Fin 100, x0 (ix2 r i) * coefMat co (ix2 i a) : EReal))
    (r : Fin 1024) (j : Fin 1600) (R : Fin 16384) (hx : ∀ p : Fin 100, x0 (ix2 r p) = x (ix2 R p)) :
    block hc hs (weightMat ![0, 0, 0] KernelIdeal.Gen.slices_S104x32x16_S104x16x16_0_0_0 w)
        (weightMat ![0, 16, 0] KernelIdeal.Gen.slices_S104x32x16_S104x16x16_0_16_0 w) (biasRow b) (ix2 r j)
      = answer C S x co w b (ix2 R j) := by
  have hj := j.isLt
  have h : j.val = 16 * (j.val / 16) + j.val % 16 := by omega
  refine (block_entry hc hs C S x0 co w b hC hS r j ⟨j.val / 16, by omega⟩ ⟨j.val % 16, Nat.mod_lt _ (by omega)⟩ h).trans ?_
  refine Eq.trans ?_ (answer_at C S x co w b R j ⟨j.val / 16, by omega⟩ ⟨j.val % 16, Nat.mod_lt _ (by omega)⟩ h).symm
  rw [hx]

/-- How far a number is from the whole number next to it. -/
def frac (t : EReal) : EReal := t - Ideal.liftRound Ideal.roundHalfEven t

def exactCos (t : EReal) : EReal := Ideal.cos (((2 * Real.pi : ℝ) : EReal) * frac t)
def exactSin (t : EReal) : EReal := Ideal.sin (((2 * Real.pi : ℝ) : EReal) * frac t)

end Cert.Periodic
-- ==== Proof.Exact.lean ====
/-
  The kernel with the cosine and the sine in place of their polynomials: its result array after the run.
-/
module

public import proofs.«01_k».proof.Proof.Entry
public import proofs.«01_k».proof.Proof.Gen.ExactIdeal.Value
public import Idealize.ShloMosaic.Lib.Claim

@[expose] public section

set_option maxRecDepth 16384

noncomputable section

open Idealize.ShloMosaic Idealize.ShloMosaic.TcCoe Idealize.SL.Sem

namespace Cert.Periodic.Exact

open Cert.ExactIdeal Cert.ExactIdeal.Gen

variable (m : (ℓ : Loc nD τ sig) → Buf (Elt Ideal) ℓ) (c : Dev nD)

theorem coef_eq : V m c main_call0_v14 = coefMat (m ((c : Thread nD τ).loc main_arg1)) := by entry_read; rfl
theorem cosw_eq : V m c main_call0_v37 = weightMat ![0, 0, 0] KernelIdeal.Gen.slices_S104x32x16_S104x16x16_0_0_0 (m ((c : Thread nD τ).loc main_arg2)) := by
  entry_read; rfl
theorem sinw_eq : V m c main_call0_v39 = weightMat ![0, 16, 0] KernelIdeal.Gen.slices_S104x32x16_S104x16x16_0_16_0 (m ((c : Thread nD τ).loc main_arg2)) := by
  entry_read; rfl
theorem bias_eq : V m c main_call0_v41 = biasRow (m ((c : Thread nD τ).loc main_arg3)) := by entry_read; rfl

theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] :=
  (by decide +kernel : ∀ t : Fin grid0.N, _)

theorem iblk1 (t : Fin cfg0.N) : iblk m c 1 t = coefMat (m ((c : Thread nD τ).loc main_arg1)) := by
  rw [← coef_eq m c]; blk_ext! [iblk, idx t]
theorem iblk2 (t : Fin cfg0.N) : iblk m c 2 t = weightMat ![0, 0, 0] KernelIdeal.Gen.slices_S104x32x16_S104x16x16_0_0_0 (m ((c : Thread nD τ).loc main_arg2)) := by
  rw [← cosw_eq m c]; blk_ext! [iblk, idx t]
theorem iblk3 (t : Fin cfg0.N) : iblk m c 3 t = weightMat ![0, 16, 0] KernelIdeal.Gen.slices_S104x32x16_S104x16x16_0_16_0 (m ((c : Thread nD τ).loc main_arg2)) := by
  rw [← sinw_eq m c]; blk_ext! [iblk, idx t]
theorem iblk4 (t : Fin cfg0.N) : iblk m c 4 t = biasRow (m ((c : Thread nD τ).loc main_arg3)) := by
  rw [← bias_eq m c]; blk_ext! [iblk, idx t]

/-- The named constant of the program is `2 π`. -/
theorem two_pi_eq : (Named.named κ "two_pi" 0x40C90FDB#32 : Ideal .f32) = ((2 * Real.pi : ℝ) : EReal) := by
  rfl

theorem cos_at (x0 : Vec Ideal S1024x100 .f32) (x1 : Vec Ideal S100x1664 .bf16) (r : Fin 1024) (a : Fin 1664) :
    k0_pay3 (F := Ideal) x0 x1 (ix2 r a) = exactCos (∑ i : Fin 100, x0 (ix2 r i) * x1 (ix2 i a) : EReal) := by
  pointwise [k0_pay3, k0_pay2, exactCos, frac]
  rw [two_pi_eq]

theorem sin_at (x0 : Vec Ideal S1024x100 .f32) (x1 : Vec Ideal S100x1664 .bf16) (r : Fin 1024) (a : Fin 1664) :
    k0_pay4 (F := Ideal) x0 x1 (ix2 r a) = exactSin (∑ i : Fin 100, x0 (ix2 r i) * x1 (ix2 i a) : EReal) := by
  pointwise [k0_pay4, k0_pay2, exactSin, frac]
  rw [two_pi_eq]

theorem final : (dats m 0 c).arrAt 5 cfg0.N = answer exactCos exactSin (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, iblk1, iblk2, iblk3, iblk4, exact_block]
  let r : Fin 1024 := y 0
  let j : Fin 1600 := y 1
  have ht : t.val < 16 := t.isLt
  have hr : r.val = (y 0).val := rfl
  obtain ⟨R, hR⟩ : ∃ R : Fin 16384, R.val = t.val * 1024 + r.val := ⟨⟨t.val * 1024 + r.val, by have := r.isLt; omega⟩, rfl⟩
  have hy : y = ix2 r j := by blk_ext
  have he : (win0_5.blk t).view.emb y = ix2 R j := by blk_ext [idx t]
  rw [he, hy]
  refine block_answer _ _ _ _ (iblk m c 0 t) _ _ _ _ (fun r a => cos_at _ _ r a) (fun r a => sin_at _ _ r a) r j R fun p => ?_
  blk_ext [iblk, V, idx t]

end Cert.Periodic.Exact
-- ==== Proof.Poly.lean ====
/-
  The kernel as it stands, with its two polynomials: its result array after the run.
-/
module

public import proofs.«01_k».proof.Proof.Entry
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem

namespace Cert.Periodic

/-- The kernel's even polynomial in the distance to the next whole number. -/
def polyCos (t : EReal) : EReal :=
  Ideal.ofBits .f32 0x3F7FA214#32 + frac t * frac t * (Ideal.ofBits .f32 0xC19C6C02#32 + frac t * frac t *
    (Ideal.ofBits .f32 0x42746DE2#32 + frac t * frac t * Ideal.ofBits .f32 0xC26E5236#32))

/-- The kernel's odd polynomial in the distance to the next whole number. -/
def polySin (t : EReal) : EReal :=
  frac t * (Ideal.ofBits .f32 0x40C90745#32 + frac t * frac t * (Ideal.ofBits .f32 0xC224D2B9#32 + frac t * frac t *
    (Ideal.ofBits .f32 0x429DA74C#32 + frac t * frac t * Ideal.ofBits .f32 0xC2688A7E#32)))

end Cert.Periodic

namespace Cert.Periodic.Poly

open Cert.KernelIdeal Cert.KernelIdeal.Gen

variable (m : (ℓ : Loc nD τ sig) → Buf (Elt Ideal) ℓ) (c : Dev nD)

theorem coef_eq : V m c main_call0_v14 = coefMat (m ((c : Thread nD τ).loc main_arg1)) := by entry_read; rfl
theorem cosw_eq : V m c main_call0_v37 = weightMat ![0, 0, 0] KernelIdeal.Gen.slices_S104x32x16_S104x16x16_0_0_0 (m ((c : Thread nD τ).loc main_arg2)) := by
  entry_read; rfl
theorem sinw_eq : V m c main_call0_v39 = weightMat ![0, 16, 0] KernelIdeal.Gen.slices_S104x32x16_S104x16x16_0_16_0 (m ((c : Thread nD τ).loc main_arg2)) := by
  entry_read; rfl
theorem bias_eq : V m c main_call0_v41 = biasRow (m ((c : Thread nD τ).loc main_arg3)) := by entry_read; rfl

theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] :=
  (by decide +kernel : ∀ t : Fin grid0.N, _)

theorem iblk1 (t : Fin cfg0.N) : iblk m c 1 t = coefMat (m ((c : Thread nD τ).loc main_arg1)) := by
  rw [← coef_eq m c]; blk_ext! [iblk, idx t]
theorem iblk2 (t : Fin cfg0.N) : iblk m c 2 t = weightMat ![0, 0, 0] KernelIdeal.Gen.slices_S104x32x16_S104x16x16_0_0_0 (m ((c : Thread nD τ).loc main_arg2)) := by
  rw [← cosw_eq m c]; blk_ext! [iblk, idx t]
theorem iblk3 (t : Fin cfg0.N) : iblk m c 3 t = weightMat ![0, 16, 0] KernelIdeal.Gen.slices_S104x32x16_S104x16x16_0_16_0 (m ((c : Thread nD τ).loc main_arg2)) := by
  rw [← sinw_eq m c]; blk_ext! [iblk, idx t]
theorem iblk4 (t : Fin cfg0.N) : iblk m c 4 t = biasRow (m ((c : Thread nD τ).loc main_arg3)) := by
  rw [← bias_eq m c]; blk_ext! [iblk, idx t]

theorem cos_at (x0 : Vec Ideal S1024x100 .f32) (x1 : Vec Ideal S100x1664 .bf16) (r : Fin 1024) (a : Fin 1664) :
    k0_pay5 (F := Ideal) x0 x1 (ix2 r a) = polyCos (∑ i : Fin 100, x0 (ix2 r i) * x1 (ix2 i a) : EReal) := by
  pointwise [k0_pay5, k0_pay4, k0_pay3, polyCos, frac]

theorem sin_at (x0 : Vec Ideal S1024x100 .f32) (x1 : Vec Ideal S100x1664 .bf16) (r : Fin 1024) (a : Fin 1664) :
    k0_pay6 (F := Ideal) x0 x1 (ix2 r a) = polySin (∑ i : Fin 100, x0 (ix2 r i) * x1 (ix2 i a) : EReal) := by
  pointwise [k0_pay6, k0_pay4, k0_pay3, polySin, frac]

theorem final : (dats m 0 c).arrAt 5 cfg0.N = answer polyCos polySin (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, iblk1, iblk2, iblk3, iblk4, kernel_block]
  let r : Fin 1024 := y 0
  let j : Fin 1600 := y 1
  have ht : t.val < 16 := t.isLt
  have hr : r.val = (y 0).val := rfl
  obtain ⟨R, hR⟩ : ∃ R : Fin 16384, R.val = t.val * 1024 + r.val := ⟨⟨t.val * 1024 + r.val, by have := r.isLt; omega⟩, rfl⟩
  have hy : y = ix2 r j := by blk_ext
  have he : (win0_5.blk t).view.emb y = ix2 R j := by blk_ext [idx t]
  rw [he, hy]
  refine block_answer _ _ _ _ (iblk m c 0 t) _ _ _ _ (fun r a => cos_at _ _ r a) (fun r a => sin_at _ _ r a) r j R fun p => ?_
  blk_ext [iblk, V, idx t]

end Cert.Periodic.Poly
-- ==== Proof.Ref.lean ====
/-
  The reference at an index: sixteen cosines and sixteen sines of the scaled input against the weights of the input's
  feature, plus the bias, cut at zero.
-/
module

public import proofs.«01_k».proof.Proof.Entry
public import proofs.«01_k».proof.Proof.Gen.ReferenceIdeal.Run

@[expose] public section

set_option maxRecDepth 16384

noncomputable section

open Idealize.ShloMosaic Idealize.ShloMosaic.TcCoe Idealize.SL.Sem

namespace Cert.Periodic

open Cert.ReferenceIdeal Cert.ReferenceIdeal.Gen

/-- The reference's angles. -/
def angle (x : FVec Ideal S16384x100 .f32) (co : FVec Ideal S100x16 .f32) : FVec Ideal S16384x100x16 .f32 :=
  mulf (broadcastInDim S16384x100x16 ![0, 1, 2] bcast_S1x100x16_S16384x100x16_0_1_2
      (mulf (broadcastInDim S1x100x16 ![] bcast_S_S1x100x16
          (mulf (constant S_ .f32 0x40000000#32) (mulf (constant S_ .f32 0x40800000#32) (Host.atan (constant S_ .f32 0x3F800000#32)))))
        (broadcastInDim S1x100x16 ![1, 2] bcast_S100x16_S1x100x16_1_2 co)))
    (broadcastInDim S16384x100x16 ![0, 1, 2] bcast_S16384x100x1_S16384x100x16_0_1_2
      (broadcastInDim S16384x100x1 ![0, 1] bcast_S16384x100_S16384x100x1_0_1 x))

/-- Sixteen of one array, then sixteen of the other. -/
def sideBySide (c s : FVec Ideal S16384x100x16 .f32) : FVec Ideal S16384x100x32 .f32 :=
  concatenate S16384x100x32 2 [⟨S16384x100x16, c⟩, ⟨S16384x100x16, s⟩] concatenates_S16384x100x16_S16384x100x16_S16384x100x32_d2

/-- The reference's last steps over its 32 features. -/
def linear (h : FVec Ideal S16384x100x32 .f32) (w : FVec Ideal S100x32x16 .f32) (b : FVec Ideal S100x16 .f32) :
    FVec Ideal S16384x1600 .f32 :=
  shapeCast _ (maximumf (addf
      (transpose S16384x100x16 [2, 0, 1] (Host.dotGeneral dot_S100x32x16_S16384x100x32_S100x16x16384_1_2_2_0_0_1 none w h)
        transposes_S100x16x16384_S16384x100x16_2_0_1)
      (broadcastInDim S16384x100x16 ![0, 1, 2] bcast_S1x100x16_S16384x100x16_0_1_2 (broadcastInDim S1x100x16 ![1, 2] bcast_S100x16_S1x100x16_1_2 b)))
    (broadcastInDim S16384x100x16 ![] bcast_S_S16384x100x16 (constant S_ .f32 0x00000000#32))) shapeCasts_S16384x100x16_S16384x1600

/-- The reference's result. -/
def plain (x : FVec Ideal S16384x100 .f32) (co : FVec Ideal S100x16 .f32) (w : FVec Ideal S100x32x16 .f32) (b : FVec Ideal S100x16 .f32) :
    FVec Ideal S16384x1600 .f32 :=
  linear (sideBySide (Host.cos (angle x co)) (Host.sin (angle x co))) w b

theorem low_at (c s : FVec Ideal S16384x100x16 .f32) (R : Fin 16384) (p : Fin 100) (k : Fin 16) :
    sideBySide c s (ix3 R p ⟨k.val, by have := k.isLt; omega⟩) = c (ix3 R p k) := by
  have := k.isLt
  pointwise [sideBySide]

theorem high_at (c s : FVec Ideal S16384x100x16 .f32) (R : Fin 16384) (p : Fin 100) (k : Fin 16) :
    sideBySide c s (ix3 R p ⟨16 + k.val, by have := k.isLt; omega⟩) = s (ix3 R p k) := by
  have := k.isLt
  pointwise [sideBySide]

theorem linear_at (h : FVec Ideal S16384x100x32 .f32) (w : FVec Ideal S100x32x16 .f32) (b : FVec Ideal S100x16 .f32)
    (R : Fin 16384) (j : Fin 1600) (p : Fin 100) (d : Fin 16) (hj : j.val = 16 * p.val + d.val) :
    linear h w b (ix2 R j) = (max ((∑ k : Fin 32, w (ix3 p k d) * h (ix3 R p k)) + b (ix2 p d)) 0 : EReal) := by
  have hd := d.isLt
  have hp : (⟨j.val / 16, by have := j.isLt; omega⟩ : Fin 100) = p := Fin.ext (by simp only; omega)
  have hd : (⟨j.val % 16, Nat.mod_lt _ (by omega)⟩ : Fin 16) = d := Fin.ext (by simp only; omega)
  have key : ∀ (p' : Fin 100) (d' : Fin 16), p' = p → d' = d →
      (max ((∑ k : Fin 32, w (ix3 p' k d') * h (ix3 R p' k)) + b (ix2 p' d')) 0 : EReal)
        = max ((∑ k : Fin 32, w (ix3 p k d) * h (ix3 R p k)) + b (ix2 p d)) 0 := fun _ _ h h' => by rw [h, h']
  pointwise [linear]
  exact key _ _ hp hd

def trueCos (t : EReal) : EReal := Ideal.cos (((2 * Real.pi : ℝ) : EReal) * t)
def trueSin (t : EReal) : EReal := Ideal.sin (((2 * Real.pi : ℝ) : EReal) * t)

theorem two_pi_real : Ideal.ofBits .f32 0x40000000#32 * (Ideal.ofBits .f32 0x40800000#32 * Ideal.atan 1) = ((2 * Real.pi : ℝ) : EReal) := by
  have h2 : Ideal.ofBits .f32 0x40000000#32 = ((2 : ℝ) : EReal) := by
    simp [Ideal.ofBits, Ideal.ieee, -EReal.coe_mul]
    norm_num
  have h4 : Ideal.ofBits .f32 0x40800000#32 = ((4 : ℝ) : EReal) := by
    simp [Ideal.ofBits, Ideal.ieee, -EReal.coe_mul]
    norm_num
  have h1 : Ideal.atan 1 = ((Real.pi / 4 : ℝ) : EReal) := by
    rw [← EReal.coe_one, Ideal.atan_coe, Real.arctan_one]
  rw [h2, h4, h1, ← EReal.coe_mul, ← EReal.coe_mul]
  congr 1
  ring

theorem angle_at (x : FVec Ideal S16384x100 .f32) (co : FVec Ideal S100x16 .f32) (R : Fin 16384) (p : Fin 100) (k : Fin 16) :
    angle x co (ix3 R p k) = (((2 * Real.pi : ℝ) : EReal) * ((x (ix2 R p) : EReal) * co (ix2 p k)) : EReal) := by
  pointwise [angle]
  rw [two_pi_real, mul_assoc]
  exact congrArg _ (mul_comm _ _)

theorem plain_eq (x : FVec Ideal S16384x100 .f32) (co : FVec Ideal S100x16 .f32) (w : FVec Ideal S100x32x16 .f32) (b : FVec Ideal S100x16 .f32) :
    plain x co w b = answer trueCos trueSin x co w b := by
  funext y
  obtain ⟨R, j, rfl⟩ : ∃ (R : Fin 16384) (j : Fin 1600), y = ix2 R j := ⟨y 0, y 1, by blk_ext⟩
  have hj := j.isLt
  have h : j.val = 16 * (j.val / 16) + j.val % 16 := by omega
  refine Eq.trans ?_ (answer_at trueCos trueSin x co w b R j ⟨j.val / 16, by omega⟩ ⟨j.val % 16, Nat.mod_lt _ (by omega)⟩ h).symm
  refine (linear_at _ w b R j ⟨j.val / 16, by omega⟩ ⟨j.val % 16, Nat.mod_lt _ (by omega)⟩ h).trans ?_
  refine congrArg₂ max (Ideal.add_congr ?_ rfl) rfl
  refine (Fin.sum_univ_add (a := 16) (b := 16) _).trans ?_
  refine Ideal.add_congr (Finset.sum_congr rfl fun k _ => ?_) (Finset.sum_congr rfl fun k _ => ?_)
  · refine (mul_comm _ _).trans (Ideal.mul_congr ?_ rfl)
    refine (low_at _ _ R _ k).trans ?_
    exact congrArg Ideal.cos (angle_at x co R _ k)
  · refine (mul_comm _ _).trans (Ideal.mul_congr ?_ rfl)
    refine (high_at _ _ R _ k).trans ?_
    exact congrArg Ideal.sin (angle_at x co R _ k)

theorem two_pi_bot : ((2 * Real.pi : ℝ) : EReal) * ⊥ = ⊥ := EReal.coe_mul_bot_of_pos (by positivity)
theorem two_pi_top : ((2 * Real.pi : ℝ) : EReal) * ⊤ = ⊤ := EReal.coe_mul_top_of_pos (by positivity)

theorem frac_coe (r : ℝ) : frac (r : EReal) = ((r - (Ideal.roundHalfEven r : ℤ) : ℝ) : EReal) := by
  rfl

/-- A whole number of turns changes no cosine. -/
theorem exactCos_eq : exactCos = trueCos := by
  funext t
  unfold exactCos trueCos
  induction t using EReal.rec with
  | bot =>
    have h : frac ⊥ = ⊥ := rfl
    rw [h]
  | top =>
    have h : frac ⊤ = ⊥ := rfl
    rw [h, two_pi_bot, two_pi_top]
    rfl
  | coe r =>
    rw [frac_coe, ← EReal.coe_mul, ← EReal.coe_mul, Ideal.cos_coe, Ideal.cos_coe]
    congr 1
    rw [mul_sub, mul_comm (2 * Real.pi) ((Ideal.roundHalfEven r : ℤ) : ℝ), Real.cos_sub_int_mul_two_pi]

/-- A whole number of turns changes no sine. -/
theorem exactSin_eq : exactSin = trueSin := by
  funext t
  unfold exactSin trueSin
  induction t using EReal.rec with
  | bot =>
    have h : frac ⊥ = ⊥ := rfl
    rw [h]
  | top =>
    have h : frac ⊤ = ⊥ := rfl
    rw [h, two_pi_bot, two_pi_top]
    rfl
  | coe r =>
    rw [frac_coe, ← EReal.coe_mul, ← EReal.coe_mul, Ideal.sin_coe, Ideal.sin_coe]
    congr 1
    rw [mul_sub, mul_comm (2 * Real.pi) ((Ideal.roundHalfEven r : ℤ) : ℝ), Real.sin_sub_int_mul_two_pi]

end Cert.Periodic
-- ==== Proof.Bound.lean ====
/-
  How far the kernel's two polynomials are from the cosine and the sine of `2 π f`, for `f` at most one half in size.

  The cosine and the sine are their Taylor polynomials up to the degree 13, with the exponential's remainder; `2 π` is
  within two millionths of `710/113`; and the two polynomials in `u = f²` left to compare are compared on pieces of
  `[0, 1/4]`, on each of which the difference from the bound is a sum of nonnegative multiples of
  `(u - a)ⁱ (b - u)ʲ`.
-/
module

public import Mathlib.Analysis.SpecialFunctions.Trigonometric.Basic
public import Mathlib.Tactic.LinearCombination
public import Mathlib.Tactic.NormNum
public import Mathlib.Tactic.Positivity
public import Mathlib.Tactic.Linarith
public import Mathlib.Tactic.GCongr
public import Mathlib.Analysis.Complex.Exponential

@[expose] public section

noncomputable section

namespace Cert.Periodic

/-! ## The polynomials in the square -/

theorem cosine_upper0 (u : ℝ) (h0 : 0 ≤ u) (h1 : u ≤ 1/16) :
    (4188293/4194304 + u * (-5125633/262144 + u * (8009457/131072 + u * (-7809307/131072)))) - (1 - (710/113)^2/2 * u + (710/113)^4/24 * u^2 - (710/113)^6/720 * u^3 + (710/113)^8/40320 * u^4 - (710/113)^10/3628800 * u^5 + (710/113)^12/479001600 * u^6) ≤ 174/100000 := by
  have key : ∀ s t : ℝ, 0 ≤ s → 0 ≤ t → 0 ≤ (166363612/3125) * (s^0 * t^6) + (4943438982268/39903125) * (s^1 * t^5) + (44038555908645901/611427603750) * (s^2 * t^4) + (2990405775585978603491/374751315469620000) * (s^3 * t^3) + (1591808915032136126581839071/33496396830621044460000) * (s^4 * t^2) + (1131213337354147679710832367769907/19247197100859005251938300000) * (s^5 * t^1) + (144871251681133286125775497969423303969/8110326172768665056046005039100000) * (s^6 * t^0) := by
    intro s t hs ht
    positivity
  linear_combination key (u - 0) (1/16 - u) (by linarith) (by linarith)

theorem cosine_upper1 (u : ℝ) (h0 : 1/16 ≤ u) (h1 : u ≤ 1/8) :
    (4188293/4194304 + u * (-5125633/262144 + u * (8009457/131072 + u * (-7809307/131072)))) - (1 - (710/113)^2/2 * u + (710/113)^4/24 * u^2 - (710/113)^6/720 * u^3 + (710/113)^8/40320 * u^4 - (710/113)^10/3628800 * u^5 + (710/113)^12/479001600 * u^6) ≤ 174/100000 := by
  have key : ∀ s t : ℝ, 0 ≤ s → 0 ≤ t → 0 ≤ (144871251681133286125775497969423303969/8110326172768665056046005039100000) * (s^0 * t^6) + (140198637524368971852866062777699949521/901147352529851672894000559900000) * (s^1 * t^5) + (287401302460094726151655535082777402719/540688411517911003736400335940000) * (s^2 * t^4) + (1426265805429892031039480481065166105251/1622065234553733011209201007820000) * (s^3 * t^3) + (3217765363694959944528424078345460969/4291177869189769870923812190000) * (s^4 * t^2) + (214207362704099726619510199907711428547/675860514397388754670500419925000) * (s^5 * t^1) + (7610748065627763855651472604284136399/144827253085154733143678661412500) * (s^6 * t^0) := by
    intro s t hs ht
    positivity
  linear_combination key (u - 1/16) (1/8 - u) (by linarith) (by linarith)

theorem cosine_upper2 (u : ℝ) (h0 : 1/8 ≤ u) (h1 : u ≤ 3/16) :
    (4188293/4194304 + u * (-5125633/262144 + u * (8009457/131072 + u * (-7809307/131072)))) - (1 - (710/113)^2/2 * u + (710/113)^4/24 * u^2 - (710/113)^6/720 * u^3 + (710/113)^8/40320 * u^4 - (710/113)^10/3628800 * u^5 + (710/113)^12/479001600 * u^6) ≤ 174/100000 := by
  have key : ∀ s t : ℝ, 0 ≤ s → 0 ≤ t → 0 ≤ (7610748065627763855651472604284136399/144827253085154733143678661412500) * (s^0 * t^6) + (211994528971055049296972265932200209797/675860514397388754670500419925000) * (s^1 * t^5) + (66097850148897707286738282994913867849/90114735252985167289400055990000) * (s^2 * t^4) + (51067050681297996854404949910680857463/60076490168656778192933370660000) * (s^3 * t^3) + (10198192783480127679322801674599035147/20025496722885592730977790220000) * (s^4 * t^2) + (710456370404466682168511736773028139/4767975410210855412137569100000) * (s^5 * t^1) + (581317257710672755542404974035885433/33375827871475987884962983700000) * (s^6 * t^0) := by
    intro s t hs ht
    positivity
  linear_combination key (u - 1/8) (3/16 - u) (by linarith) (by linarith)

theorem cosine_upper3 (u : ℝ) (h0 : 3/16 ≤ u) (h1 : u ≤ 1/4) :
    (4188293/4194304 + u * (-5125633/262144 + u * (8009457/131072 + u * (-7809307/131072)))) - (1 - (710/113)^2/2 * u + (710/113)^4/24 * u^2 - (710/113)^6/720 * u^3 + (710/113)^8/40320 * u^4 - (710/113)^10/3628800 * u^5 + (710/113)^12/479001600 * u^6) ≤ 174/100000 := by
  have key : ∀ s t : ℝ, 0 ≤ s → 0 ≤ t → 0 ≤ (581317257710672755542404974035885433/33375827871475987884962983700000) * (s^0 * t^6) + (2002612499696806291329277531019428223/33375827871475987884962983700000) * (s^1 * t^5) + (1286446504076746227771887795423728897/20025496722885592730977790220000) * (s^2 * t^4) + (3038935659047613232625007468424808713/60076490168656778192933370660000) * (s^3 * t^3) + (741626112716560508331785130708368641/6436766803784654806385718285000) * (s^4 * t^2) + (23630899317906996346770309646410373543/168965128599347188667625104981250) * (s^5 * t^1) + (1939815130280585828876742007496175506/36206813271288683285919665353125) * (s^6 * t^0) := by
    intro s t hs ht
    positivity
  linear_combination key (u - 3/16) (1/4 - u) (by linarith) (by linarith)

theorem cosine_upper (u : ℝ) (h0 : 0 ≤ u) (h1 : u ≤ 1/4) :
    (4188293/4194304 + u * (-5125633/262144 + u * (8009457/131072 + u * (-7809307/131072)))) - (1 - (710/113)^2/2 * u + (710/113)^4/24 * u^2 - (710/113)^6/720 * u^3 + (710/113)^8/40320 * u^4 - (710/113)^10/3628800 * u^5 + (710/113)^12/479001600 * u^6) ≤ 174/100000 := by
  rcases le_total u (1/16) with h | h
  · exact cosine_upper0 u h0 h
  have h11 := h
  rcases le_total u (1/8) with h | h
  · exact cosine_upper1 u h11 h
  have h12 := h
  rcases le_total u (3/16) with h | h
  · exact cosine_upper2 u h12 h
  have h13 := h
  exact cosine_upper3 u h13 h1

theorem cosine_lower0 (u : ℝ) (h0 : 0 ≤ u) (h1 : u ≤ 1/8) :
    (1 - (710/113)^2/2 * u + (710/113)^4/24 * u^2 - (710/113)^6/720 * u^3 + (710/113)^8/40320 * u^4 - (710/113)^10/3628800 * u^5 + (710/113)^12/479001600 * u^6) - (4188293/4194304 + u * (-5125633/262144 + u * (8009457/131072 + u * (-7809307/131072)))) ≤ 174/100000 := by
  have key : ∀ s t : ℝ, 0 ≤ s → 0 ≤ t → 0 ≤ (4022153/50000) * (s^0 * t^6) + (1052331155923/159612500) * (s^1 * t^5) + (157134186964482569/9782841660000) * (s^2 * t^4) + (39502353734123620622077/2998010523756960000) * (s^3 * t^3) + (1078126986388852718672554337/267971174644968355680000) * (s^4 * t^2) + (76341665693569379808660732371629/153977576806872042015506400000) * (s^5 * t^1) + (844949349155385727129546056853017649/9268944197449902921195434330400000) * (s^6 * t^0) := by
    intro s t hs ht
    positivity
  linear_combination key (u - 0) (1/8 - u) (by linarith) (by linarith)

theorem cosine_lower1 (u : ℝ) (h0 : 1/8 ≤ u) (h1 : u ≤ 1/4) :
    (1 - (710/113)^2/2 * u + (710/113)^4/24 * u^2 - (710/113)^6/720 * u^3 + (710/113)^8/40320 * u^4 - (710/113)^10/3628800 * u^5 + (710/113)^12/479001600 * u^6) - (4188293/4194304 + u * (-5125633/262144 + u * (8009457/131072 + u * (-7809307/131072)))) ≤ 174/100000 := by
  have key : ∀ s t : ℝ, 0 ≤ s → 0 ≤ t → 0 ≤ (844949349155385727129546056853017649/9268944197449902921195434330400000) * (s^0 * t^6) + (12935707754697738841082611783697856461/21627536460716440149456013437600000) * (s^1 * t^5) + (6538541322816542508888079781809909931/1441835764047762676630400895840000) * (s^2 * t^4) + (178605536590446827747920700067110964797/12976521876429864089673608062560000) * (s^3 * t^3) + (34125179396579043954032308756978587709/2162753646071644014945601343760000) * (s^4 * t^2) + (3680161495306914310804182641390680301/600764901686567781929333706600000) * (s^5 * t^1) + (87054611707600783409256328894056503/1158618024681237865149429291300000) * (s^6 * t^0) := by
    intro s t hs ht
    positivity
  linear_combination key (u - 1/8) (1/4 - u) (by linarith) (by linarith)

theorem cosine_lower (u : ℝ) (h0 : 0 ≤ u) (h1 : u ≤ 1/4) :
    (1 - (710/113)^2/2 * u + (710/113)^4/24 * u^2 - (710/113)^6/720 * u^3 + (710/113)^8/40320 * u^4 - (710/113)^10/3628800 * u^5 + (710/113)^12/479001600 * u^6) - (4188293/4194304 + u * (-5125633/262144 + u * (8009457/131072 + u * (-7809307/131072)))) ≤ 174/100000 := by
  rcases le_total u (1/8) with h | h
  · exact cosine_lower0 u h0 h
  have h11 := h
  exact cosine_lower1 u h11 h1

theorem sine_upper0 (u : ℝ) (h0 : 0 ≤ u) (h1 : u ≤ 1/4) :
    (13174597/2097152 + u * (-10801849/262144 + u * (2582995/32768 + u * (-7619903/131072)))) - (710/113 - (710/113)^3/6 * u + (710/113)^5/120 * u^2 - (710/113)^7/5040 * u^3 + (710/113)^9/362880 * u^4 - (710/113)^11/39916800 * u^5 + (710/113)^13/6227020800 * u^6) ≤ 346/100000 := by
  have key : ∀ s t : ℝ, 0 ≤ s → 0 ≤ t → 0 ≤ (3338760903/11300000) * (s^0 * t^8) + (29579023329259/216434550000) * (s^1 * t^7) + (11232830584235167661/2763652768950000) * (s^2 * t^6) + (112919459760118249292749949/5928565810729388400000) * (s^3 * t^5) + (3969866776776157389282078287101/136263342306966408863280000) * (s^4 * t^4) + (868684114603639511981117880366054343/47848531992735487056318613800000) * (s^5 * t^3) + (91009288996975682434009078736500998807769/23828138295594337934663162804875800000) * (s^6 * t^2) + (12864381191747881795115402078223847341493/47656276591188675869326325609751600000) * (s^7 * t^1) + (14059279948718033748350329524750556120421/47656276591188675869326325609751600000) * (s^8 * t^0) := by
    intro s t hs ht
    positivity
  linear_combination key (u - 0) (1/4 - u) (by linarith) (by linarith)

theorem sine_upper (u : ℝ) (h0 : 0 ≤ u) (h1 : u ≤ 1/4) :
    (13174597/2097152 + u * (-10801849/262144 + u * (2582995/32768 + u * (-7619903/131072)))) - (710/113 - (710/113)^3/6 * u + (710/113)^5/120 * u^2 - (710/113)^7/5040 * u^3 + (710/113)^9/362880 * u^4 - (710/113)^11/39916800 * u^5 + (710/113)^13/6227020800 * u^6) ≤ 346/100000 := by
  exact sine_upper0 u h0 h1

theorem sine_lower0 (u : ℝ) (h0 : 0 ≤ u) (h1 : u ≤ 1/4) :
    (710/113 - (710/113)^3/6 * u + (710/113)^5/120 * u^2 - (710/113)^7/5040 * u^3 + (710/113)^9/362880 * u^4 - (710/113)^11/39916800 * u^5 + (710/113)^13/6227020800 * u^6) - (13174597/2097152 + u * (-10801849/262144 + u * (2582995/32768 + u * (-7619903/131072)))) ≤ 346/100000 := by
  have key : ∀ s t : ℝ, 0 ≤ s → 0 ≤ t → 0 ≤ (1785892153/11300000) * (s^0 * t^8) + (755661315135509/216434550000) * (s^1 * t^7) + (23860738002263011411/2763652768950000) * (s^2 * t^6) + (37645425406296154226893699/5928565810729388400000) * (s^3 * t^5) + (355900015276220027438163630851/136263342306966408863280000) * (s^4 * t^4) + (346501641086130247169099038741185593/47848531992735487056318613800000) * (s^5 * t^3) + (211566495833876383630478758145065762676519/23828138295594337934663162804875800000) * (s^6 * t^2) + (160036067283024727384591933282671444935243/47656276591188675869326325609751600000) * (s^7 * t^1) + (7553276110628542399113087395361355414171/47656276591188675869326325609751600000) * (s^8 * t^0) := by
    intro s t hs ht
    positivity
  linear_combination key (u - 0) (1/4 - u) (by linarith) (by linarith)

theorem sine_lower (u : ℝ) (h0 : 0 ≤ u) (h1 : u ≤ 1/4) :
    (710/113 - (710/113)^3/6 * u + (710/113)^5/120 * u^2 - (710/113)^7/5040 * u^3 + (710/113)^9/362880 * u^4 - (710/113)^11/39916800 * u^5 + (710/113)^13/6227020800 * u^6) - (13174597/2097152 + u * (-10801849/262144 + u * (2582995/32768 + u * (-7619903/131072)))) ≤ 346/100000 := by
  exact sine_lower0 u h0 h1

/-! ## The Taylor polynomials -/

theorem taylor_exp (y : ℝ) (hy : |y| ≤ 15 / 2) :
    ‖Complex.exp (y * Complex.I) - ∑ m ∈ Finset.range 14, ((y : ℂ) * Complex.I) ^ m / m.factorial‖ ≤ |y| ^ 14 / (Nat.factorial 14) * 2 := by
  have h : ‖(y : ℂ) * Complex.I‖ = |y| := by simp
  have := Complex.exp_bound' (x := (y : ℂ) * Complex.I) (n := 14) (by rw [h]; push_cast; linarith)
  rwa [h] at this

def taylorCos (y : ℝ) : ℝ := 1 - y^2/2 + y^4/24 - y^6/720 + y^8/40320 - y^10/3628800 + y^12/479001600
def taylorSin (y : ℝ) : ℝ := y - y^3/6 + y^5/120 - y^7/5040 + y^9/362880 - y^11/39916800 + y^13/6227020800

theorem taylor_sum (y : ℝ) :
    (∑ m ∈ Finset.range 14, ((y : ℂ) * Complex.I) ^ m / m.factorial) = (taylorCos y : ℂ) + (taylorSin y : ℂ) * Complex.I := by
  have h2 : Complex.I ^ 2 = -1 := Complex.I_sq
  have h4 : Complex.I ^ 4 = 1 := Complex.I_pow_four
  have h3 : Complex.I ^ 3 = -Complex.I := Complex.I_pow_three
  have h5 : Complex.I ^ 5 = Complex.I := by rw [show 5 = 4 + 1 from rfl, pow_add, h4, one_mul, pow_one]
  have h6 : Complex.I ^ 6 = -1 := by rw [show 6 = 4 + 2 from rfl, pow_add, h4, one_mul, h2]
  have h7 : Complex.I ^ 7 = -Complex.I := by rw [show 7 = 4 + 3 from rfl, pow_add, h4, one_mul, h3]
  have h8 : Complex.I ^ 8 = 1 := by rw [show 8 = 4 + 4 from rfl, pow_add, h4, one_mul]
  have h9 : Complex.I ^ 9 = Complex.I := by rw [show 9 = 8 + 1 from rfl, pow_add, h8, one_mul, pow_one]
  have h10 : Complex.I ^ 10 = -1 := by rw [show 10 = 8 + 2 from rfl, pow_add, h8, one_mul, h2]
  have h11 : Complex.I ^ 11 = -Complex.I := by rw [show 11 = 8 + 3 from rfl, pow_add, h8, one_mul, h3]
  have h12 : Complex.I ^ 12 = 1 := by rw [show 12 = 8 + 4 from rfl, pow_add, h8, one_mul, h4]
  have h13 : Complex.I ^ 13 = Complex.I := by rw [show 13 = 12 + 1 from rfl, pow_add, h12, one_mul, pow_one]
  simp only [Finset.sum_range_succ, Finset.sum_range_zero, mul_pow, h2, h3, h4, h5, h6, h7, h8, h9, h10, h11, h12, h13,
    Nat.factorial, taylorCos, taylorSin]
  push_cast
  ring

theorem taylor_parts (y : ℝ) (hy : |y| ≤ 15 / 2) :
    |Real.cos y - taylorCos y| ≤ |y| ^ 14 / (Nat.factorial 14) * 2 ∧ |Real.sin y - taylorSin y| ≤ |y| ^ 14 / (Nat.factorial 14) * 2 := by
  have h := taylor_exp y hy
  rw [taylor_sum] at h
  constructor
  · refine le_trans ?_ h
    refine le_trans (le_of_eq ?_) (Complex.abs_re_le_norm _)
    simp [Complex.exp_ofReal_mul_I_re]
  · refine le_trans ?_ h
    refine le_trans (le_of_eq ?_) (Complex.abs_im_le_norm _)
    simp [Complex.exp_ofReal_mul_I_im]

/-! ## The bounds -/

theorem half_pi_below : 355 / 226 - 1 / 2000000 < Real.pi / 2 := by
  by_contra h
  rw [not_lt] at h
  have h4 := Real.two_le_pi
  have hc := Real.cos_nonpos_of_pi_div_two_le_of_le h (by linarith)
  have ht := (taylor_parts (355 / 226 - 1 / 2000000) (by rw [abs_of_pos (by norm_num)]; norm_num)).1
  rw [abs_of_pos (by norm_num : (0 : ℝ) < 355 / 226 - 1 / 2000000), abs_le] at ht
  have hs := ht.1
  have hn : (0 : ℝ) < taylorCos (355 / 226 - 1 / 2000000) - (355 / 226 - 1 / 2000000) ^ 14 / (Nat.factorial 14 : ℕ) * 2 := by
    norm_num [taylorCos, Nat.factorial]
  linarith

theorem half_pi_above : Real.pi / 2 < 355 / 226 + 1 / 2000000 := by
  by_contra h
  rw [not_lt] at h
  have hc := Real.cos_nonneg_of_mem_Icc (x := 355 / 226 + 1 / 2000000) ⟨by linarith [Real.pi_pos], h⟩
  have ht := (taylor_parts (355 / 226 + 1 / 2000000) (by rw [abs_of_pos (by norm_num)]; norm_num)).1
  rw [abs_of_pos (by norm_num : (0 : ℝ) < 355 / 226 + 1 / 2000000), abs_le] at ht
  have hs := ht.2
  have hn : taylorCos (355 / 226 + 1 / 2000000) + (355 / 226 + 1 / 2000000) ^ 14 / (Nat.factorial 14 : ℕ) * 2 < (0 : ℝ) := by
    norm_num [taylorCos, Nat.factorial]
  linarith

theorem sin_small (t : ℝ) (ht : |t| ≤ 1) : |Real.sin t| ≤ 2 * |t| := by
  have h : ‖(t : ℂ) * Complex.I‖ = |t| := by simp
  have hb := Complex.norm_exp_sub_one_le (x := (t : ℂ) * Complex.I) (by rw [h]; exact ht)
  rw [h] at hb
  refine le_trans (le_trans (le_of_eq ?_) (Complex.abs_im_le_norm _)) hb
  simp [Complex.exp_ofReal_mul_I_im]

theorem angle_close (f : ℝ) (hf : |f| ≤ 1 / 2) : |710 / 113 * f - 2 * Real.pi * f| ≤ 1 / 1000000 := by
  have h1 := half_pi_below
  have h2 := half_pi_above
  have h : |710 / 113 - 2 * Real.pi| ≤ 2 / 1000000 := by
    rw [abs_le]
    constructor <;> linarith
  rw [← sub_mul, abs_mul]
  nlinarith [abs_nonneg f, abs_nonneg (710 / 113 - 2 * Real.pi)]

theorem turn_close (x y : ℝ) (h : |x - y| ≤ 1 / 1000000) :
    |Real.cos x - Real.cos y| ≤ 2 / 1000000 ∧ |Real.sin x - Real.sin y| ≤ 2 / 1000000 := by
  have e : |(x - y) / 2| ≤ 1 / 2000000 := by
    rw [abs_div, abs_two]
    linarith
  have hs : |Real.sin ((x - y) / 2)| ≤ 1 / 1000000 := (sin_small _ (by linarith)).trans (by linarith)
  constructor
  · rw [Real.cos_sub_cos, abs_mul, abs_mul, abs_neg, abs_two]
    nlinarith [Real.abs_sin_le_one ((x + y) / 2), abs_nonneg (Real.sin ((x + y) / 2)), abs_nonneg (Real.sin ((x - y) / 2))]
  · rw [Real.sin_sub_sin, abs_mul, abs_mul, abs_two]
    nlinarith [Real.abs_cos_le_one ((x + y) / 2), abs_nonneg (Real.cos ((x + y) / 2)), abs_nonneg (Real.sin ((x - y) / 2))]

theorem remainder_small (f : ℝ) (hf : |f| ≤ 1 / 2) : |710 / 113 * f| ^ 14 / (Nat.factorial 14) * 2 ≤ 21 / 100000 := by
  have h : |710 / 113 * f| ≤ 355 / 113 := by
    rw [abs_mul, abs_of_pos (by norm_num : (0 : ℝ) < 710 / 113)]
    linarith
  have h14 : |710 / 113 * f| ^ 14 ≤ (355 / 113) ^ 14 := pow_le_pow_left₀ (abs_nonneg _) h 14
  have e : ((Nat.factorial 14 : ℕ) : ℝ) = 87178291200 := by norm_num [Nat.factorial]
  rw [e]
  have : (355 / 113 : ℝ) ^ 14 / 87178291200 * 2 ≤ 21 / 100000 := by norm_num
  refine le_trans ?_ this
  gcongr

theorem wide (f : ℝ) (hf : |f| ≤ 1 / 2) : |710 / 113 * f| ≤ 15 / 2 := by
  rw [abs_mul, abs_of_pos (by norm_num : (0 : ℝ) < 710 / 113)]
  linarith

theorem square_small (f : ℝ) (hf : |f| ≤ 1 / 2) : 0 ≤ f * f ∧ f * f ≤ 1 / 4 := by
  rw [abs_le] at hf
  constructor <;> nlinarith [hf.1, hf.2]

theorem cosine_close (f : ℝ) (hf : |f| ≤ 1 / 2) :
    |(4188293/4194304 + f * f * (-5125633/262144 + f * f * (8009457/131072 + f * f * (-7809307/131072)))) - Real.cos (2 * Real.pi * f)| ≤ 1 / 512 := by
  obtain ⟨h0, h1⟩ := square_small f hf
  have hu := cosine_upper (f * f) h0 h1
  have hl := cosine_lower (f * f) h0 h1
  have ht := (taylor_parts (710 / 113 * f) (wide f hf)).1.trans (remainder_small f hf)
  have hp := (turn_close (710 / 113 * f) (2 * Real.pi * f) (angle_close f hf)).1
  have e : taylorCos (710 / 113 * f) = (1 - (710/113)^2/2 * (f * f) + (710/113)^4/24 * (f * f)^2 - (710/113)^6/720 * (f * f)^3 + (710/113)^8/40320 * (f * f)^4 - (710/113)^10/3628800 * (f * f)^5 + (710/113)^12/479001600 * (f * f)^6) := by
    unfold taylorCos
    ring
  rw [e, abs_le] at ht
  rw [abs_le] at hp ⊢
  constructor <;> linarith [ht.1, ht.2, hp.1, hp.2]

theorem sine_close (f : ℝ) (hf : |f| ≤ 1 / 2) :
    |f * (13174597/2097152 + f * f * (-10801849/262144 + f * f * (2582995/32768 + f * f * (-7619903/131072)))) - Real.sin (2 * Real.pi * f)| ≤ 1 / 512 := by
  obtain ⟨h0, h1⟩ := square_small f hf
  have hu := sine_upper (f * f) h0 h1
  have hl := sine_lower (f * f) h0 h1
  have ht := (taylor_parts (710 / 113 * f) (wide f hf)).2.trans (remainder_small f hf)
  have hp := (turn_close (710 / 113 * f) (2 * Real.pi * f) (angle_close f hf)).2
  have e : taylorSin (710 / 113 * f) = f * (710/113 - (710/113)^3/6 * (f * f) + (710/113)^5/120 * (f * f)^2 - (710/113)^7/5040 * (f * f)^3 + (710/113)^9/362880 * (f * f)^4 - (710/113)^11/39916800 * (f * f)^5 + (710/113)^13/6227020800 * (f * f)^6) := by
    unfold taylorSin
    ring
  have hd : |f * (13174597/2097152 + f * f * (-10801849/262144 + f * f * (2582995/32768 + f * f * (-7619903/131072)))) - f * (710/113 - (710/113)^3/6 * (f * f) + (710/113)^5/120 * (f * f)^2 - (710/113)^7/5040 * (f * f)^3 + (710/113)^9/362880 * (f * f)^4 - (710/113)^11/39916800 * (f * f)^5 + (710/113)^13/6227020800 * (f * f)^6)| ≤ 1 / 2 * (346 / 100000) := by
    rw [← mul_sub, abs_mul]
    exact mul_le_mul hf (abs_le.mpr ⟨by linarith, hu⟩) (abs_nonneg _) (by norm_num)
  rw [e, abs_le] at ht
  rw [abs_le] at hp hd ⊢
  constructor <;> linarith [ht.1, ht.2, hp.1, hp.2, hd.1, hd.2]

end Cert.Periodic
-- ==== Proof.Close.lean ====
/-
  The kernel with its polynomials against the formula, for finite inputs, coefficients and biases: an entry is within a
  512th of the sizes of the weights that it sums over.
-/
module

public import proofs.«01_k».proof.Proof.Bound
public import proofs.«01_k».proof.Proof.Poly
public import proofs.«01_k».proof.Proof.Ref
public import proofs.«01_k».proof.Proof.Gen.Pre_finite_inputs
public import proofs.«01_k».proof.Proof.Gen.Post_close_to_formula

@[expose] public section

set_option maxRecDepth 16384

noncomputable section

open Idealize.ShloMosaic Idealize.ShloMosaic.TcCoe Idealize.SL.Sem

namespace Cert.Periodic

/-! ## The features over the reals -/

/-- The distance of a real to the whole number that it rounds to. -/
def rest (r : ℝ) : ℝ := r - (Ideal.roundHalfEven r : ℤ)

theorem rest_le (r : ℝ) : |rest r| ≤ 1 / 2 := by
  have h0 := Int.floor_le r
  have h1 := Int.lt_floor_add_one r
  unfold rest Ideal.roundHalfEven
  simp only
  rw [abs_le]
  split_ifs <;> push_cast <;> constructor <;> linarith

def cosR (r : ℝ) : ℝ :=
  4188293/4194304 + rest r * rest r * (-5125633/262144 + rest r * rest r * (8009457/131072 + rest r * rest r * (-7809307/131072)))

def sinR (r : ℝ) : ℝ :=
  rest r * (13174597/2097152 + rest r * rest r * (-10801849/262144 + rest r * rest r * (2582995/32768 + rest r * rest r * (-7619903/131072))))

theorem polyCos_coe (r : ℝ) : polyCos (r : EReal) = (cosR r : EReal) := by
  have c0 : Ideal.ofBits .f32 0x3F7FA214#32 = ((4188293/4194304 : ℝ) : EReal) := by
    simp [Ideal.ofBits, Ideal.ieee, -EReal.coe_mul]
    norm_num
  have c1 : Ideal.ofBits .f32 0xC19C6C02#32 = ((-5125633/262144 : ℝ) : EReal) := by
    simp [Ideal.ofBits, Ideal.ieee, -EReal.coe_mul]
    norm_num
  have c2 : Ideal.ofBits .f32 0x42746DE2#32 = ((8009457/131072 : ℝ) : EReal) := by
    simp [Ideal.ofBits, Ideal.ieee, -EReal.coe_mul]
    norm_num
  have c3 : Ideal.ofBits .f32 0xC26E5236#32 = ((-7809307/131072 : ℝ) : EReal) := by
    simp [Ideal.ofBits, Ideal.ieee, -EReal.coe_mul]
    norm_num
  have h : frac (r : EReal) = (rest r : EReal) := frac_coe r
  unfold polyCos cosR
  rw [c0, c1, c2, c3, h]
  simp only [← EReal.coe_mul, ← EReal.coe_add]

theorem polySin_coe (r : ℝ) : polySin (r : EReal) = (sinR r : EReal) := by
  have c0 : Ideal.ofBits .f32 0x40C90745#32 = ((13174597/2097152 : ℝ) : EReal) := by
    simp [Ideal.ofBits, Ideal.ieee, -EReal.coe_mul]
    norm_num
  have c1 : Ideal.ofBits .f32 0xC224D2B9#32 = ((-10801849/262144 : ℝ) : EReal) := by
    simp [Ideal.ofBits, Ideal.ieee, -EReal.coe_mul]
    norm_num
  have c2 : Ideal.ofBits .f32 0x429DA74C#32 = ((2582995/32768 : ℝ) : EReal) := by
    simp [Ideal.ofBits, Ideal.ieee, -EReal.coe_mul]
    norm_num
  have c3 : Ideal.ofBits .f32 0xC2688A7E#32 = ((-7619903/131072 : ℝ) : EReal) := by
    simp [Ideal.ofBits, Ideal.ieee, -EReal.coe_mul]
    norm_num
  have h : frac (r : EReal) = (rest r : EReal) := frac_coe r
  unfold polySin sinR
  rw [c0, c1, c2, c3, h]
  simp only [← EReal.coe_mul, ← EReal.coe_add]

theorem trueCos_coe (r : ℝ) : trueCos (r : EReal) = (Real.cos (2 * Real.pi * r) : EReal) := by
  unfold trueCos
  rw [← EReal.coe_mul, Ideal.cos_coe]

theorem trueSin_coe (r : ℝ) : trueSin (r : EReal) = (Real.sin (2 * Real.pi * r) : EReal) := by
  unfold trueSin
  rw [← EReal.coe_mul, Ideal.sin_coe]

theorem cosR_close (r : ℝ) : |cosR r - Real.cos (2 * Real.pi * r)| ≤ 1 / 512 := by
  have h := cosine_close (rest r) (rest_le r)
  have e : Real.cos (2 * Real.pi * rest r) = Real.cos (2 * Real.pi * r) := by
    rw [rest, mul_sub, mul_comm (2 * Real.pi) ((Ideal.roundHalfEven r : ℤ) : ℝ), Real.cos_sub_int_mul_two_pi]
  rwa [e] at h

theorem sinR_close (r : ℝ) : |sinR r - Real.sin (2 * Real.pi * r)| ≤ 1 / 512 := by
  have h := sine_close (rest r) (rest_le r)
  have e : Real.sin (2 * Real.pi * rest r) = Real.sin (2 * Real.pi * r) := by
    rw [rest, mul_sub, mul_comm (2 * Real.pi) ((Ideal.roundHalfEven r : ℤ) : ℝ), Real.sin_sub_int_mul_two_pi]
  rwa [e] at h

/-! ## One entry over the reals -/

theorem sum_coe {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

/-- An entry of real arguments is real. -/
theorem entry_coe (C S : EReal → EReal) (c s : ℝ → ℝ) (hC : ∀ r : ℝ, C r = (c r : EReal)) (hS : ∀ r : ℝ, S r = (s r : EReal))
    (t u v : Fin 16 → ℝ) (b : ℝ) :
    entry C S (fun k => (t k : EReal)) (fun k => (u k : EReal)) (fun k => (v k : EReal)) (b : EReal)
      = ((max ((∑ k, c (t k) * u k) + (∑ k, s (t k) * v k) + b) 0 : ℝ) : EReal) := by
  unfold entry
  simp only [hC, hS, ← EReal.coe_mul, sum_coe, ← EReal.coe_add]
  rw [← EReal.coe_zero]
  exact (EReal.coe_strictMono.monotone.map_max).symm

/-- A sum with features that are each a 512th off is off by a 512th of the weights' sizes. -/
theorem sum_close (c c' : ℝ → ℝ) (h : ∀ r, |c r - c' r| ≤ 1 / 512) (t u : Fin 16 → ℝ) :
    |(∑ k, c (t k) * u k) - ∑ k, c' (t k) * u k| ≤ (∑ k, |u k|) / 512 := by
  rw [← Finset.sum_sub_distrib, Finset.sum_div]
  refine (Finset.abs_sum_le_sum_abs _ _).trans (Finset.sum_le_sum fun k _ => ?_)
  rw [← sub_mul, abs_mul]
  nlinarith [h (t k), abs_nonneg (u k)]

theorem cut_close (t u v : Fin 16 → ℝ) (b : ℝ) :
    |max ((∑ k, cosR (t k) * u k) + (∑ k, sinR (t k) * v k) + b) 0
      - max ((∑ k, Real.cos (2 * Real.pi * t k) * u k) + (∑ k, Real.sin (2 * Real.pi * t k) * v k) + b) 0|
      ≤ ((∑ k, |u k|) + ∑ k, |v k|) / 512 := by
  have h1 := sum_close cosR (fun r => Real.cos (2 * Real.pi * r)) cosR_close t u
  have h2 := sum_close sinR (fun r => Real.sin (2 * Real.pi * r)) sinR_close t v
  refine (abs_max_sub_max_le_abs _ _ _).trans ?_
  rw [abs_le] at h1 h2 ⊢
  constructor <;> linarith [h1.1, h1.2, h2.1, h2.2]

/-! ## The condition on the arguments -/

theorem infinity : Ideal.ofBits .f32 0x7F800000#32 = (⊤ : EReal) := by
  simp [Ideal.ofBits, Ideal.ieee]

theorem real_of_abs_lt (v : EReal) (h : max v (-v) < ⊤) : ∃ r : ℝ, v = (r : EReal) := by
  induction v using EReal.rec with
  | bot => simp at h
  | top => simp at h
  | coe r => exact ⟨r, rfl⟩

/-- An array whose sizes are all below infinity is an array of reals. -/
theorem reals_of_finite {s : Shape} (v : FVec Ideal s .f32) (hb : (⟨0, ![]⟩ : Shape).BroadcastsInDim s (![] : Fin 0 → Fin s.rank))
    (h : cmpf .olt (Host.absf v) (broadcastInDim s ![] hb (constant (⟨0, ![]⟩ : Shape) .f32 0x7F800000#32)) = fun _ => 1#1) :
    ∃ f : s.Idx → ℝ, ∀ i, v i = (f i : EReal) := by
  have hv : ∀ i, ∃ r : ℝ, v i = (r : EReal) := fun i => by
    have hi : Ideal.cmp .olt (max (v i) (-(v i)) : EReal) (Ideal.ofBits .f32 0x7F800000#32) = 1 := congrFun h i
    rw [Ideal.cmp_olt_eq_one, infinity] at hi
    exact real_of_abs_lt _ hi
  exact ⟨fun i => (hv i).choose, fun i => (hv i).choose_spec⟩

/-! ## The condition on the result -/

open Cert.Post_close_to_formula Cert.Post_close_to_formula.Gen in
/-- How far the result may be from the formula: a 512th of the sizes of a column of weights. -/
def limit (w : FVec Ideal KernelIdeal.S100x32x16 .f32) : FVec Ideal KernelIdeal.S16384x1600 .f32 :=
  broadcastInDim S16384x1600 ![0, 1] bcast_S1x1600_S16384x1600_0_1
    (Host.divf (shapeCast S1x1600 (Host.reduceAdd (Host.absf w) (constant S_ .f32 0x00000000#32) reducesTo_S100x32x16_S100x16_d1 h_S_)
        shapeCasts_S100x16_S1x1600)
      (broadcastInDim S1x1600 ![] bcast_S_S1x1600 (constant S_ .f32 0x44000000#32)))

theorem limit_at (w : FVec Ideal KernelIdeal.S100x32x16 .f32) (R : Fin 16384) (j : Fin 1600) (p : Fin 100) (d : Fin 16)
    (hj : j.val = 16 * p.val + d.val) :
    limit w (ix2 R j) = Ideal.div (∑ k : Fin 32, max (w (ix3 p k d) : EReal) (-(w (ix3 p k d)))) (Ideal.ofBits .f32 0x44000000#32) := by
  have hd := d.isLt
  have hp : (⟨j.val / 16, by have := j.isLt; omega⟩ : Fin 100) = p := Fin.ext (by simp only; omega)
  have hd : (⟨j.val % 16, Nat.mod_lt _ (by omega)⟩ : Fin 16) = d := Fin.ext (by simp only; omega)
  have key : ∀ (p' : Fin 100) (d' : Fin 16), p' = p → d' = d →
      Ideal.div (∑ k : Fin 32, max (w (ix3 p' k d') : EReal) (-(w (ix3 p' k d')))) (Ideal.ofBits .f32 0x44000000#32)
        = Ideal.div (∑ k : Fin 32, max (w (ix3 p k d) : EReal) (-(w (ix3 p k d)))) (Ideal.ofBits .f32 0x44000000#32) :=
    fun _ _ h h' => by rw [h, h']
  pointwise [limit]
  exact key _ _ hp hd

theorem post_eq (x : FVec Ideal KernelIdeal.S16384x100 .f32) (co : FVec Ideal KernelIdeal.S100x16 .f32)
    (w : FVec Ideal KernelIdeal.S100x32x16 .f32) (b : FVec Ideal KernelIdeal.S100x16 .f32) (o : FVec Ideal KernelIdeal.S16384x1600 .f32) :
    Cert.Post_close_to_formula.fn x co w b o = cmpf .ole (Host.absf (subf o (plain x co w b))) (limit w) := rfl

theorem scale : Ideal.ofBits .f32 0x44000000#32 = ((512 : ℝ) : EReal) := by
  simp [Ideal.ofBits, Ideal.ieee, -EReal.coe_mul]
  norm_num

theorem size_coe (r : ℝ) : max (r : EReal) (-(r : EReal)) = ((|r| : ℝ) : EReal) := by
  rw [← EReal.coe_neg]
  exact (EReal.coe_strictMono.monotone.map_max).symm

/-- An infinite weight makes the distance that is allowed infinite. -/
theorem sum_infinite (a : Fin 32 → EReal) (k : Fin 32) (h : max (a k) (-(a k)) = ⊤) : (∑ i, max (a i) (-(a i))) = ⊤ := by
  have h0 : ∀ i ∈ Finset.univ, 0 ≤ max (a i) (-(a i)) := fun i _ => by
    rcases le_total 0 (a i) with h | h
    · exact le_max_of_le_left h
    · exact le_max_of_le_right (by simpa using EReal.neg_le_neg_iff.mpr h)
  exact top_le_iff.mp (h ▸ Finset.single_le_sum h0 (Finset.mem_univ k))

/-- For real inputs, coefficients and biases, the result with the polynomials is as near to the formula as the condition asks. -/
theorem close (x : FVec Ideal KernelIdeal.S16384x100 .f32) (co : FVec Ideal KernelIdeal.S100x16 .f32)
    (w : FVec Ideal KernelIdeal.S100x32x16 .f32) (b : FVec Ideal KernelIdeal.S100x16 .f32)
    (hx : ∃ f : KernelIdeal.S16384x100.Idx → ℝ, ∀ i, x i = (f i : EReal)) (hco : ∃ f : KernelIdeal.S100x16.Idx → ℝ, ∀ i, co i = (f i : EReal))
    (hb : ∃ f : KernelIdeal.S100x16.Idx → ℝ, ∀ i, b i = (f i : EReal)) :
    Cert.Post_close_to_formula.fn x co w b (answer polyCos polySin x co w b) = fun _ => 1#1 := by
  obtain ⟨xr, hx⟩ := hx
  obtain ⟨cr, hco⟩ := hco
  obtain ⟨br, hb⟩ := hb
  rw [post_eq, plain_eq]
  funext y
  obtain ⟨R, j, rfl⟩ : ∃ (R : Fin 16384) (j : Fin 1600), y = ix2 R j := ⟨y 0, y 1, by blk_ext⟩
  have hj : j.val = 16 * (j.val / 16) + j.val % 16 := by omega
  obtain ⟨p, d, hpd⟩ : ∃ (p : Fin 100) (d : Fin 16), j.val = 16 * p.val + d.val :=
    ⟨⟨j.val / 16, by have := j.isLt; omega⟩, ⟨j.val % 16, Nat.mod_lt _ (by omega)⟩, hj⟩
  show Ideal.cmp .ole (max ((answer polyCos polySin x co w b (ix2 R j) : EReal) - answer trueCos trueSin x co w b (ix2 R j))
    (-((answer polyCos polySin x co w b (ix2 R j) : EReal) - answer trueCos trueSin x co w b (ix2 R j)))) (limit w (ix2 R j)) = 1
  rw [Ideal.cmp_ole_eq_one]
  by_cases hi : ∃ k : Fin 32, max (w (ix3 p k d) : EReal) (-(w (ix3 p k d))) = ⊤
  · obtain ⟨k, hk⟩ := hi
    have hl : limit w (ix2 R j) = (⊤ : EReal) := by
      refine (limit_at w R j p d hpd).trans ?_
      rw [scale, Ideal.div_coe (by norm_num), sum_infinite (fun k => w (ix3 p k d)) k hk]
      exact EReal.top_mul_coe_of_pos (by norm_num)
    rw [hl]
    exact le_top
  have hcol : ∀ k : Fin 32, ∃ r : ℝ, w (ix3 p k d) = (r : EReal) := fun k =>
    real_of_abs_lt _ (lt_top_iff_ne_top.mpr fun h => hi ⟨k, h⟩)
  choose wr hw using hcol
  let t : Fin 16 → ℝ := fun k => xr (ix2 R p) * cr (ix2 p k)
  let u : Fin 16 → ℝ := fun k => wr ⟨k.val, by have := k.isLt; omega⟩
  let v : Fin 16 → ℝ := fun k => wr ⟨16 + k.val, by have := k.isLt; omega⟩
  have value : ∀ (C S : EReal → EReal) (c s : ℝ → ℝ), (∀ r : ℝ, C r = (c r : EReal)) → (∀ r : ℝ, S r = (s r : EReal)) →
      answer C S x co w b (ix2 R j)
        = ((max ((∑ k, c (t k) * u k) + (∑ k, s (t k) * v k) + br (ix2 p d)) 0 : ℝ) : EReal) := fun C S c s hC hS => by
    refine (answer_at C S x co w b R j p d hpd).trans (Eq.trans ?_ (entry_coe C S c s hC hS t u v (br (ix2 p d))))
    simp only [hx, hco, hw, hb, ← EReal.coe_mul]
    rfl
  have hl : limit w (ix2 R j) = ((((∑ k, |u k|) + ∑ k, |v k|) / 512 : ℝ) : EReal) := by
    refine (limit_at w R j p d hpd).trans ?_
    rw [scale, Ideal.div_coe (by norm_num)]
    simp only [hw, size_coe]
    rw [sum_coe, ← EReal.coe_mul, mul_one_div]
    exact congrArg (fun z : ℝ => ((z / 512 : ℝ) : EReal)) (Fin.sum_univ_add (a := 16) (b := 16) _)
  have ha := value polyCos polySin cosR sinR polyCos_coe polySin_coe
  have hf := value trueCos trueSin _ _ trueCos_coe trueSin_coe
  rw [hl, ha, hf, ← EReal.coe_sub, size_coe, EReal.coe_le_coe_iff]
  exact cut_close t u v _

end Cert.Periodic
-- ==== Proof.lean ====
/-
  The proof of the claim: the frames of the five programs, the idealizations, the kernel's results within a 512th of the
  weights' sizes of the formula, and the kernel with cosine and sine in place of its polynomials equal to the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.ExactIdeal.Value
public import proofs.«01_k».proof.Proof.Gen.Exact
public import proofs.«01_k».proof.Proof.Gen.Exact.Skeleton
public import proofs.«01_k».proof.Proof.Gen.Exact.Launch
public import proofs.«01_k».proof.Proof.Gen.Exact.Points
public import proofs.«01_k».proof.Proof.Gen.Exact.Frame
public import proofs.«01_k».proof.Proof.Gen.ExactIdeal
public import proofs.«01_k».proof.Proof.Gen.ExactIdeal.Skeleton
public import proofs.«01_k».proof.Proof.Gen.ExactIdeal.Launch
public import proofs.«01_k».proof.Proof.Gen.ExactIdeal.Points
public import proofs.«01_k».proof.Proof.Gen.ExactIdeal.Frame
public import proofs.«01_k».proof.Proof.Gen.Pre_finite_inputs
public import proofs.«01_k».proof.Proof.Gen.Post_close_to_formula
public import proofs.«01_k».proof.Proof.Exact
public import proofs.«01_k».proof.Proof.Poly
public import proofs.«01_k».proof.Proof.Ref
public import proofs.«01_k».proof.Proof.Close
public import Idealize.ShloMosaic.Adequacy
public import Idealize.ShloMosaic.Init

@[expose] public section

noncomputable section

namespace Cert.Proof

open Idealize.ShloMosaic Idealize.ShloMosaic.TcCoe Idealize.SL.Sem

/-- The reference comes to its end, with its arguments as they were. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one literal of the exact kernel is `2 π`, rounded. -/
theorem preserves_exact : Cert.preserves_Exact_ExactIdeal :=
  IdealRules.named_const.statement Cert.ExactIdeal.κ "two_pi" .f32 0x40C90FDB#32 ((2 * Real.pi : ℝ) : EReal) rfl

/-- The exact kernel's result array is the reference's. -/
theorem algebraic : Cert.algebraic_ExactIdeal_ReferenceIdeal := by
  pair_intro
  · run_from Cert.ExactIdeal.Value.run_blocks m g
  · run_from Cert.ReferenceIdeal.Value.run m' g'
    refine Eq.trans ?_ (Cert.Periodic.Exact.final m c).symm
    rw [Cert.Periodic.exactCos_eq, Cert.Periodic.exactSin_eq]
    exact Cert.Periodic.plain_eq _ _ _ _

/-- The kernel's result is close to the formula, for finite inputs, coefficients and biases. -/
theorem holds : Cert.holds_KernelIdeal_close_to_formula_pre_finite_inputs := by
  intro m g hpre
  run_from Cert.KernelIdeal.Value.run_blocks m g
  obtain ⟨hx, hco, hb⟩ := hpre c
  rw [Cert.Periodic.Poly.final m c]
  exact Cert.Periodic.close _ _ _ _ (Cert.Periodic.reals_of_finite _ _ hx) (Cert.Periodic.reals_of_finite _ _ hco)
    (Cert.Periodic.reals_of_finite _ _ hb)

theorem claim : Cert.Claim :=
  ⟨Cert.Kernel.Gen.facts, Cert.KernelIdeal.Gen.facts, Cert.ReferenceIdeal.Gen.facts, Cert.Exact.Gen.facts, Cert.ExactIdeal.Gen.facts,
    Cert.Pre_finite_inputs.Gen.facts, Cert.Post_close_to_formula.Gen.facts,
    fun m g _ => Cert.Kernel.Gen.frame m g, fun m g _ => Cert.KernelIdeal.Gen.frame m g, fun m g _ => Cert.KernelIdeal.Gen.frame m g,
    frame_reference, fun m g _ => Cert.Exact.Gen.frame m g, fun m g _ => Cert.ExactIdeal.Gen.frame m g,
    trivial, holds, preserves_exact, algebraic⟩

end Cert.Proof

end
